-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S999999 : Shape := ⟨1, ![999999]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : IVec S16384x200 32) (main_arg1 : FVec F S999999 .f32) : IVec S16384x200 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  main_v4
-- ==== Kernel.lean ====
abbrev S16384x200 : Shape := ⟨2, ![16384, 200]⟩
abbrev S999999 : Shape := ⟨1, ![999999]⟩
abbrev S_ : Shape := ⟨0, ![]⟩
abbrev S1015808 : Shape := ⟨1, ![1015808]⟩
abbrev S7936x128 : Shape := ⟨2, ![7936, 128]⟩
abbrev S1x1 : Shape := ⟨2, ![1, 1]⟩
abbrev S256x128 : Shape := ⟨2, ![256, 128]⟩
abbrev S2 : Shape := ⟨1, ![2]⟩
abbrev S1 : Shape := ⟨1, ![1]⟩
abbrev S128x128 : Shape := ⟨2, ![128, 128]⟩
abbrev S256x1 : Shape := ⟨2, ![256, 1]⟩
abbrev S256x256 : Shape := ⟨2, ![256, 256]⟩
abbrev S1x256x128 : Shape := ⟨3, ![1, 256, 128]⟩
abbrev S1x1x1 : Shape := ⟨3, ![1, 1, 1]⟩
abbrev S3276800 : Shape := ⟨1, ![3276800]⟩
abbrev S32x16 : Shape := ⟨2, ![32, 16]⟩
abbrev S25600 : Shape := ⟨1, ![25600]⟩
abbrev S16 : Shape := ⟨1, ![16]⟩
abbrev S1x16 : Shape := ⟨2, ![1, 16]⟩

abbrev nBuf : Table → Nat
  | .hbm => 15
  | .local .tc .vmem => 5
  | .local .tc .smem => 1
  | .local .scVector .vmem => 3
  | _ => 0

abbrev bufTy : (tb : Table) → Fin (nBuf tb) → BufTy
  | .hbm, ⟨0, _⟩ => ⟨S16384x200, .i32⟩
  | .hbm, ⟨1, _⟩ => ⟨S999999, .f32⟩
  | .hbm, ⟨2, _⟩ => ⟨S_, .i32⟩
  | .hbm, ⟨3, _⟩ => ⟨S_, .f32⟩
  | .hbm, ⟨4, _⟩ => ⟨S1015808, .f32⟩
  | .hbm, ⟨5, _⟩ => ⟨S7936x128, .f32⟩
  | .hbm, ⟨6, _⟩ => ⟨S7936x128, .f32⟩
  | .hbm, ⟨7, _⟩ => ⟨S1x1, .f32⟩
  | .hbm, ⟨8, _⟩ => ⟨S1015808, .f32⟩
  | .hbm, ⟨9, _⟩ => ⟨S3276800, .i32⟩
  | .hbm, ⟨10, _⟩ => ⟨S32x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S256x128, .f32⟩
  | .local .tc .vmem, ⟨1, _⟩ => ⟨S256x128, .f32⟩
  | .local .tc .vmem, ⟨2, _⟩ => ⟨S256x128, .f32⟩
  | .local .tc .vmem, ⟨3, _⟩ => ⟨S256x128, .f32⟩
  | .local .tc .vmem, ⟨4, _⟩ => ⟨S1x1, .f32⟩
  | .local .tc .smem, ⟨0, _⟩ => ⟨S2, .f32⟩
  | .local .scVector .vmem, ⟨0, _⟩ => ⟨S25600, .i32⟩
  | .local .scVector .vmem, ⟨1, _⟩ => ⟨S25600, .f32⟩
  | .local .scVector .vmem, ⟨2, _⟩ => ⟨S16, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v87 : BitVec 1 := Scalar.cmpi .eq arg0 c30_i32
  let v88 : BitVec 32 := Scalar.extui v87
  let c0_i32_21 : BitVec 32 := 0#32
  let v89 : BitVec 1 := Scalar.cmpi .ne v88 c0_i32_21
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v4 : BitVec 32 := Scalar.addi v2 c0_i32
  ![v4.toNat]
@[reducible] def k1_t1_loop : Scf.Loop 32 :=
  let c0_i32_2 : BitVec 32 := 0#32
  let c400_i32 : BitVec 32 := 400#32
  let v7 : BitVec 32 := Scalar.addi c0_i32_2 c400_i32
  let c1_i32 : BitVec 32 := 1#32
  ⟨c0_i32_2, v7, c1_i32⟩
def k1_off2 (k1_t1 : Fin k1_t1_loop.trips) : Fin 1 → Nat :=
  let c0_i32_2 : BitVec 32 := 0#32
  let c1_i32 : BitVec 32 := 1#32
  let arg9 : BitVec 32 := Scf.iv c0_i32_2 c1_i32 k1_t1
  let c64_i32 : BitVec 32 := 64#32
  let v30 : BitVec 32 := Scalar.muli arg9 c64_i32
  let v31 : Index := Scalar.indexCast v30
  ![v31.toNat]
def k1_off3 (k1_t1 : Fin k1_t1_loop.trips) (c16_i32 : BitVec 32) : Fin 1 → Nat :=
  let c0_i32_2 : BitVec 32 := 0#32
  let c1_i32 : BitVec 32 := 1#32
  let arg9 : BitVec 32 := Scf.iv c0_i32_2 c1_i32 k1_t1
  let c64_i32 : BitVec 32 := 64#32
  let v30 : BitVec 32 := Scalar.muli arg9 c64_i32
  let v35 : BitVec 32 := Scalar.addi v30 c16_i32
  let v36 : Index := Scalar.indexCast v35
  ![v36.toNat]
@[reducible] def k1_t2_loop : Scf.Loop 32 :=
  let c0_i32_6 : BitVec 32 := 0#32
  let c400_i32_7 : BitVec 32 := 400#32
  let v12 : BitVec 32 := Scalar.addi c0_i32_6 c400_i32_7
  let c1_i32_8 : BitVec 32 := 1#32
  ⟨c0_i32_6, v12, c1_i32_8⟩
def k1_off4 (k1_t2 : Fin k1_t2_loop.trips) : Fin 1 → Nat :=
  let c0_i32_6 : BitVec 32 := 0#32
  let c1_i32_8 : BitVec 32 := 1#32
  let arg9 : BitVec 32 := Scf.iv c0_i32_6 c1_i32_8 k1_t2
  let c64_i32 : BitVec 32 := 64#32
  let v30 : BitVec 32 := Scalar.muli arg9 c64_i32
  let v31 : Index := Scalar.indexCast v30
  ![v31.toNat]
def k1_off5 (k1_t2 : Fin k1_t2_loop.trips) (c16_i32 : BitVec 32) : Fin 1 → Nat :=
  let c0_i32_6 : BitVec 32 := 0#32
  let c1_i32_8 : BitVec 32 := 1#32
  let arg9 : BitVec 32 := Scf.iv c0_i32_6 c1_i32_8 k1_t2
  let c64_i32 : BitVec 32 := 64#32
  let v30 : BitVec 32 := Scalar.muli arg9 c64_i32
  let v35 : BitVec 32 := Scalar.addi v30 c16_i32
  let v36 : Index := Scalar.indexCast v35
  ![v36.toNat]
@[reducible] def k1_t3_loop : Scf.Loop 32 :=
  let c0_i32_12 : BitVec 32 := 0#32
  let c400_i32_13 : BitVec 32 := 400#32
  let v17 : BitVec 32 := Scalar.addi c0_i32_12 c400_i32_13
  let c1_i32_14 : BitVec 32 := 1#32
  ⟨c0_i32_12, v17, c1_i32_14⟩
def k1_off6 (k1_t3 : Fin k1_t3_loop.trips) : Fin 1 → Nat :=
  let c0_i32_12 : BitVec 32 := 0#32
  let c1_i32_14 : BitVec 32 := 1#32
  let arg9 : BitVec 32 := Scf.iv c0_i32_12 c1_i32_14 k1_t3
  let c64_i32 : BitVec 32 := 64#32
  let v30 : BitVec 32 := Scalar.muli arg9 c64_i32
  let v31 : Index := Scalar.indexCast v30
  ![v31.toNat]
def k1_off7 (k1_t3 : Fin k1_t3_loop.trips) (c16_i32 : BitVec 32) : Fin 1 → Nat :=
  let c0_i32_12 : BitVec 32 := 0#32
  let c1_i32_14 : BitVec 32 := 1#32
  let arg9 : BitVec 32 := Scf.iv c0_i32_12 c1_i32_14 k1_t3
  let c64_i32 : BitVec 32 := 64#32
  let v30 : BitVec 32 := Scalar.muli arg9 c64_i32
  let v35 : BitVec 32 := Scalar.addi v30 c16_i32
  let v36 : Index := Scalar.indexCast v35
  ![v36.toNat]
@[reducible] def k1_t4_loop : Scf.Loop 32 :=
  let c0_i32_18 : BitVec 32 := 0#32
  let c400_i32_19 : BitVec 32 := 400#32
  let v22 : BitVec 32 := Scalar.addi c0_i32_18 c400_i32_19
  let c1_i32_20 : BitVec 32 := 1#32
  ⟨c0_i32_18, v22, c1_i32_20⟩
def k1_off8 (k1_t4 : Fin k1_t4_loop.trips) : Fin 1 → Nat :=
  let c0_i32_18 : BitVec 32 := 0#32
  let c1_i32_20 : BitVec 32 := 1#32
  let arg9 : BitVec 32 := Scf.iv c0_i32_18 c1_i32_20 k1_t4
  let c64_i32 : BitVec 32 := 64#32
  let v30 : BitVec 32 := Scalar.muli arg9 c64_i32
  let v31 : Index := Scalar.indexCast v30
  ![v31.toNat]
def k1_off9 (k1_t4 : Fin k1_t4_loop.trips) (c16_i32 : BitVec 32) : Fin 1 → Nat :=
  let c0_i32_18 : BitVec 32 := 0#32
  let c1_i32_20 : BitVec 32 := 1#32
  let arg9 : BitVec 32 := Scf.iv c0_i32_18 c1_i32_20 k1_t4
  let c64_i32 : BitVec 32 := 64#32
  let v30 : BitVec 32 := Scalar.muli arg9 c64_i32
  let v35 : BitVec 32 := Scalar.addi v30 c16_i32
  let v36 : Index := Scalar.indexCast v35
  ![v36.toNat]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r4 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S999999 : Shape := ⟨1, ![999999]⟩
abbrev S_ : Shape := ⟨0, ![]⟩
abbrev S1 : Shape := ⟨1, ![1]⟩
abbrev S999998 : Shape := ⟨1, ![999998]⟩
abbrev S1000000 : Shape := ⟨1, ![1000000]⟩
abbrev S16384x200x1 : Shape := ⟨3, ![16384, 200, 1]⟩
abbrev S1x1x1 : Shape := ⟨3, ![1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S999999, .f32⟩
  | .hbm, ⟨2, _⟩ => ⟨S999999, .i32⟩
  | .hbm, ⟨3, _⟩ => ⟨S_, .i32⟩
  | .hbm, ⟨4, _⟩ => ⟨S999999, .i32⟩
  | .hbm, ⟨5, _⟩ => ⟨S999999, .i32⟩
  | .hbm, ⟨6, _⟩ => ⟨S_, .i32⟩
  | .hbm, ⟨7, _⟩ => ⟨S999999, .i32⟩
  | .hbm, ⟨8, _⟩ => ⟨S999999, .i32⟩
  | .hbm, ⟨9, _⟩ => ⟨S999999, .f32⟩
  | .hbm, ⟨10, _⟩ => ⟨S999999, .f32⟩
  | .hbm, ⟨11, _⟩ => ⟨S999999, .f32⟩
  | .hbm, ⟨12, _⟩ => ⟨S999999, .f32⟩
  | .hbm, ⟨13, _⟩ => ⟨S_, .f32⟩
  | .hbm, ⟨14, _⟩ => ⟨S999999, .f32⟩
  | .hbm, ⟨15, _⟩ => ⟨S999999, .f32⟩
  | .hbm, ⟨16, _⟩ => ⟨S999999, .f32⟩
  | .hbm, ⟨17, _⟩ => ⟨S999999, .f32⟩
  | .hbm, ⟨18, _⟩ => ⟨S999999, .i1⟩
  | .hbm, ⟨19, _⟩ => ⟨S999999, .f32⟩
  | .hbm, ⟨20, _⟩ => ⟨S999999, .f32⟩
  | .hbm, ⟨21, _⟩ => ⟨S999999, .f32⟩
  | .hbm, ⟨22, _⟩ => ⟨S999999, .f32⟩
  | .hbm, ⟨23, _⟩ => ⟨S999999, .f32⟩
  | .hbm, ⟨24, _⟩ => ⟨S999999, .f32⟩
  | .hbm, ⟨25, _⟩ => ⟨S999999, .f32⟩
  | .hbm, ⟨26, _⟩ => ⟨S999999, .f32⟩
  | .hbm, ⟨27, _⟩ => ⟨S999999, .f32⟩
  | .hbm, ⟨28, _⟩ => ⟨S999999, .f32⟩
  | .hbm, ⟨29, _⟩ => ⟨S999999, .f32⟩
  | .hbm, ⟨30, _⟩ => ⟨S_, .f32⟩
  | .hbm, ⟨31, _⟩ => ⟨S999999, .f32⟩
  | .hbm, ⟨32, _⟩ => ⟨S999999, .f32⟩
  | .hbm, ⟨33, _⟩ => ⟨S999999, .f32⟩
  | .hbm, ⟨34, _⟩ => ⟨S999999, .f32⟩
  | .hbm, ⟨35, _⟩ => ⟨S999999, .i1⟩
  | .hbm, ⟨36, _⟩ => ⟨S999999, .f32⟩
  | .hbm, ⟨37, _⟩ => ⟨S999999, .f32⟩
  | .hbm, ⟨38, _⟩ => ⟨S999999, .f32⟩
  | .hbm, ⟨39, _⟩ => ⟨S999999, .f32⟩
  | .hbm, ⟨40, _⟩ => ⟨S999999, .f32⟩
  | .hbm, ⟨41, _⟩ => ⟨S999999, .f32⟩
  | .hbm, ⟨42, _⟩ => ⟨S999999, .f32⟩
  | .hbm, ⟨43, _⟩ => ⟨S999999, .f32⟩
  | .hbm, ⟨44, _⟩ => ⟨S999999, .f32⟩
  | .hbm, ⟨45, _⟩ => ⟨S_, .f32⟩
  | .hbm, ⟨46, _⟩ => ⟨S_, .f32⟩
  | .hbm, ⟨47, _⟩ => ⟨S999999, .f32⟩
  | .hbm, ⟨48, _⟩ => ⟨S_, .f32⟩
  | .hbm, ⟨49, _⟩ => ⟨S1, .f32⟩
  | .hbm, ⟨50, _⟩ => ⟨S999998, .f32⟩
  | .hbm, ⟨51, _⟩ => ⟨S999999, .f32⟩
  | .hbm, ⟨52, _⟩ => ⟨S999999, .f32⟩
  | .hbm, ⟨53, _⟩ => ⟨S1, .f32⟩
  | .hbm, ⟨54, _⟩ => ⟨S1000000, .f32⟩
  | .hbm, ⟨55, _⟩ => ⟨S999999, .f32⟩
  | .hbm, ⟨56, _⟩ => ⟨S999999, .f32⟩
  | .hbm, ⟨57, _⟩ => ⟨S999999, .f32⟩
  | .hbm, ⟨58, _⟩ => ⟨S999999, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S16384x200, .i32⟩
  | .hbm, ⟨63, _⟩ => ⟨S16384x200, .i1⟩
  | .hbm, ⟨64, _⟩ => ⟨S_, .i32⟩
  | .hbm, ⟨65, _⟩ => ⟨S16384x200, .i32⟩
  | .hbm, ⟨66, _⟩ => ⟨S16384x200, .i32⟩
  | .hbm, ⟨67, _⟩ => ⟨S16384x200, .i32⟩
  | .hbm, ⟨68, _⟩ => ⟨S16384x200x1, .i32⟩
  | .hbm, ⟨69, _⟩ => ⟨S1, .i32⟩
  | .hbm, ⟨70, _⟩ => ⟨S_, .i32⟩
  | .hbm, ⟨71, _⟩ => ⟨S16384x200x1, .i32⟩
  | .hbm, ⟨72, _⟩ => ⟨S16384x200x1, .i1⟩
  | .hbm, ⟨73, _⟩ => ⟨S1x1x1, .i32⟩
  | .hbm, ⟨74, _⟩ => ⟨S16384x200x1, .i32⟩
  | .hbm, ⟨75, _⟩ => ⟨S16384x200x1, .i1⟩
  | .hbm, ⟨76, _⟩ => ⟨S16384x200x1, .i1⟩
  | .hbm, ⟨77, _⟩ => ⟨S_, .i1⟩
  | .hbm, ⟨78, _⟩ => ⟨S16384x200, .i1⟩
  | .hbm, ⟨79, _⟩ => ⟨S16384x200, .f32⟩
  | .hbm, ⟨80, _⟩ => ⟨S_, .f32⟩
  | .hbm, ⟨81, _⟩ => ⟨S16384x200, .f32⟩
  | .hbm, ⟨82, _⟩ => ⟨S16384x200, .f32⟩
  | .hbm, ⟨83, _⟩ => ⟨S_, .f32⟩
  | .hbm, ⟨84, _⟩ => ⟨S_, .f32⟩
  | .hbm, ⟨85, _⟩ => ⟨S_, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v10 : Ref sig .tc := ⟨.hbm, 44, rfl⟩
abbrev main_call2_call0_cst : Ref sig .tc := ⟨.hbm, 45, rfl⟩
abbrev main_call2_call0_v0 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_1 : Ref sig .tc := ⟨.hbm, 59, rfl⟩
abbrev main_v22 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_cst : Ref sig .tc := ⟨.hbm, 80, rfl⟩
abbrev main_call3_v14 : Ref sig .tc := ⟨.hbm, 81, rfl⟩
abbrev main_v23 : Ref sig .tc := ⟨.hbm, 82, rfl⟩
abbrev main_cst_2 : Ref sig .tc := ⟨.hbm, 83, rfl⟩
abbrev main_v24 : Ref sig .tc := ⟨.hbm, 84, rfl⟩
abbrev main_v25 : Ref sig .tc := ⟨.hbm, 85, rfl⟩

abbrev nD : Nat := 1
abbrev τ : Topo := Topo.v7x

variable {F : FTy → Type} [FloatOps F]
-- ==== Proof.KISetup.lean ====
/-
  The launch of the idealized kernel's program, set up for the proof: the program as the SparseCore launch
  theorem sees it, the ghost state (the SparseCore handshakes' rounds, the TensorCore pipeline's rounds, the
  transfers' counters), and the buffers the two kernel calls use.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The program's labels with the TensorCore pipeline's. -/
abbrev ΛP : Labels := Pipeline.Sig Λ₀ (Fin 1) fun p => (pcfgs (F := F) p).Adm
/-- The SparseCore call's configuration. -/
abbrev K : SparseCore.Cfg τ sig (ΛP (F := F)) 1 := sc (F := F)
theorem nSub_zero : (K (F := F)).nSub 0 = 16 := rfl
theorem nCore_zero : (K (F := F)).nCore 0 = 2 := rfl
/-- The definitions under the SparseCore layer: the kernels' bodies and the pipeline's. -/
abbrev D [FloatOps F] : Defs nD τ sig (Elt F) (ΛP (F := F)) := Pipeline.defs pcfgs defs₀
/-- The bodies use no variant. -/
abbrev 𝒱₀ : Variants := Variants.none
/-- The pipelined program's variants. -/
abbrev 𝒱 : Variants := 𝒱₀.lift
/-- The launch's variant. -/
abbrev v₀ : 𝒱.V := Sum.inl none

/-- The side conditions of the SparseCore launch: the handshake's semaphores are distinct and unscoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := UR sig nD τ
/-- The certificate's ghost state: handshakes, pipeline, counters. -/
abbrev UU : Type := UH × (UP × Counters)
/-- The certificate's machine algebra. -/
abbrev MM (F : FTy → Type) : Type := MT nD τ sig (HIx 1) (Elt F) ℕ UU ℕ

/-- The handshakes' part of the ghost state. -/
abbrev EH : Emb UH (MM F) := embL
/-- The pipeline's part of the ghost state. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP (F := F)).LandsIn (upEmb : UEmb _ (MM F)) := by unfold EP; infer_instance

/-- The list of indices, the table of log-probabilities, the indices in a row, the workers' partial sums. -/
abbrev tabLoc (d : Dev nD) : Loc nD τ sig := (SparseCore.T d).loc main_v3
abbrev ixLoc (d : Dev nD) : Loc nD τ sig := (SparseCore.T d).loc main_v4
abbrev outLoc (d : Dev nD) : Loc nD τ sig := (SparseCore.T d).loc main_v5

end Cert.Proof.KernelIdeal

end
-- ==== Proof.KIGather.lean ====
/-
  What one worker of the SparseCore call computes, and the proof that it computes it: a worker (one vector subcore
  of the 32) copies its 102400 indices in four chunks into its memory, gathers the table's entries at a chunk's
  indices, adds them into four accumulators of sixteen lanes, and writes the accumulators' sum to its row of the
  result. The values come first (as functions of the table and the list of indices), then the body's run.
-/
module

public import proofs.«01_k».proof.Proof.KISetup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-! ## The values -/

/-- Position `n` of a chunk, wrapped to its 25600 entries. -/
def chunkIx (n : ℕ) : S25600.Idx := fun | 0 => (⟨n % 25600, Nat.mod_lt _ (by decide)⟩ : Fin 25600)
/-- Entry `n` of the table, wrapped to its 1015808 entries. -/
def tabIx (n : ℕ) : S1015808.Idx := fun | 0 => (⟨n % 1015808, Nat.mod_lt _ (by decide)⟩ : Fin 1015808)
/-- Position `n` of the list of all indices, wrapped to its 3276800 entries. -/
def listIx (n : ℕ) : S3276800.Idx := fun | 0 => (⟨n % 3276800, Nat.mod_lt _ (by decide)⟩ : Fin 3276800)

/-- Four accumulators of sixteen lanes. -/
abbrev Acc4 (F : FTy → Type) : Type := FVec F S16 .f32 × FVec F S16 .f32 × FVec F S16 .f32 × FVec F S16 .f32

/-- The sixteen gathered entries that trip `k` adds into accumulator `u`. -/
def lane (G : S25600.Idx → F .f32) (k u : ℕ) : FVec F S16 .f32 := fun x => G (chunkIx (64 * k + 16 * u + (x 0).val))

/-- Chunk `j` of worker `w`'s indices. -/
def chunk (ixs : S3276800.Idx → BitVec 32) (w j : ℕ) : S25600.Idx → BitVec 32 :=
  fun x => ixs (listIx (102400 * w + 25600 * j + (x 0).val))

/-- The table's entries at a list of indices. -/
def lookup (tab : S1015808.Idx → F .f32) (L : S25600.Idx → BitVec 32) : S25600.Idx → F .f32 :=
  fun x => tab (tabIx (L x).toNat)

variable [FloatOps F]

/-- One trip of the accumulation. -/
def trip (G : S25600.Idx → F .f32) (k : ℕ) (a : Acc4 F) : Acc4 F :=
  (addf a.1 (lane G k 0), addf a.2.1 (lane G k 1), addf a.2.2.1 (lane G k 2), addf a.2.2.2 (lane G k 3))

/-- The accumulators after `k` trips. -/
def accAfter (G : S25600.Idx → F .f32) (a : Acc4 F) : ℕ → Acc4 F
  | 0 => a
  | k + 1 => trip G k (accAfter G a k)

/-- Worker `w`'s accumulators after its first `j` chunks. -/
def accs (tab : S1015808.Idx → F .f32) (ixs : S3276800.Idx → BitVec 32) (w : ℕ) : ℕ → Acc4 F
  | 0 => (k1_pay10 (F := F), k1_pay10 (F := F), k1_pay10 (F := F), k1_pay10 (F := F))
  | j + 1 => accAfter (lookup tab (chunk ixs w j)) (accs tab ixs w j) 400

/-- Worker `w`'s sixteen partial sums. -/
def partialSums (tab : S1015808.Idx → F .f32) (ixs : S3276800.Idx → BitVec 32) (w : ℕ) : FVec F S16 .f32 :=
  k1_pay9 (accs tab ixs w 4).1 (accs tab ixs w 4).2.1 (accs tab ixs w 4).2.2.1 (accs tab ixs w 4).2.2.2

/-- Every worker's partial sums: the SparseCore call's result. -/
def allSums (tab : S1015808.Idx → F .f32) (ixs : S3276800.Idx → BitVec 32) : S32x16.Idx → F .f32 :=
  fun y => partialSums tab ixs (y 0).val (fun | 0 => (y 1 : Fin 16))

/-- Every index is below the table's length. -/
def InRange (ixs : S3276800.Idx → BitVec 32) : Prop := ∀ x, (ixs x).toNat < 1015808

/-! ## The memrefs of the body -/

local notation "tV" => (Memref.whole Cert.KernelIdeal.main_v3_scv : Memref Cert.KernelIdeal.sig Kind.scVector Space.hbm Cert.KernelIdeal.S1015808 EltTy.f32)
local notation "xV" => (Memref.whole Cert.KernelIdeal.main_v4_scv : Memref Cert.KernelIdeal.sig Kind.scVector Space.hbm Cert.KernelIdeal.S3276800 EltTy.i32)
local notation "oV" => (Memref.whole Cert.KernelIdeal.main_v5_scv : Memref Cert.KernelIdeal.sig Kind.scVector Space.hbm Cert.KernelIdeal.S32x16 EltTy.f32)
local notation "sV" => (Memref.whole Cert.KernelIdeal.cc1_scratch0 : Memref Cert.KernelIdeal.sig Kind.scVector Space.vmem Cert.KernelIdeal.S25600 EltTy.i32)
local notation "rV" => (Memref.whole Cert.KernelIdeal.cc1_scratch1 : Memref Cert.KernelIdeal.sig Kind.scVector Space.vmem Cert.KernelIdeal.S25600 EltTy.f32)
local notation "aV" => (Memref.whole Cert.KernelIdeal.cc1_scratch2 : Memref Cert.KernelIdeal.sig Kind.scVector Space.vmem Cert.KernelIdeal.S16 EltTy.f32)

theorem odiv : 32 ∣ S32x16.size 0 := ⟨1, rfl⟩
/-- Row `w` of the result. -/
abbrev orow (w : Fin 32) : Rect S32x16 := Rect.part (s := S32x16) (a₀ := 0) odiv w
abbrev oRowSet (w : Fin 32) : Finset S32x16.Idx := ((oV).view.slice (orow w)).set

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
/-- The worker's number: twice its subcore and its core. -/
def wid (L : grid1.Coords) : Fin 32 :=
  ⟨2 * (L 1).val + (L 0).val, by
    have h0 : (L 0).val < 2 := (L 0).isLt
    have h1 : (L 1).val < 16 := (L 1).isLt
    omega⟩

abbrev orowK (L : grid1.Coords) : Rect S32x16 := Rect.unit (s := S32x16) (k1_off10 L) S1x16.size (k1_off10_inb L)
/-- The worker's row of the result, squeezed, as the body addresses it. -/
abbrev oRowK (L : grid1.Coords) : Memref sig .scVector .hbm S16 .f32 := ((oV).slice (orowK L) (fun _ => rfl)).squeeze S16 squeezes_S1x16_S16
/-- The whole table, as the body addresses it. -/
abbrev tAllK : Memref sig .scVector .hbm S1015808 .f32 := (tV).slice (Rect.unit (s := S1015808) ![0] S1015808.size inb_S1015808_S1015808_0) (fun _ => rfl)
/-- Chunk `r` of the worker's indices, as the body addresses it. -/
abbrev xChunkK (L : grid1.Coords) (r : Fin 4) : Memref sig .scVector .hbm S25600 .i32 :=
  (xV).slice (Rect.unit (s := S3276800) (k1_off1 L (BitVec.ofNat 32 (25600 * r.val))) S25600.size (k1_off1_inb L r)) (fun _ => rfl)

omit [FloatOps F] in
theorem orowK_eq : orowK L = orow (wid L) := by
  unfold orowK orow Rect.part Rect.block
  congr 1 <;> funext a
  · rw [k1_off10_eq]
    match a with
    | 0 => simp [Shape.partIx, Shape.partSize, wid]
    | 1 => simp [Shape.partIx, Shape.partSize]
  · match a with
    | 0 => simp [Shape.partSize]
    | 1 => simp [Shape.partSize]

omit [FloatOps F] in
theorem set_oRowK : (oRowK L).view.set = oRowSet (wid L) := by
  show (((oV).view.slice (orowK L)).reshape S16 squeezes_S1x16_S16.numel_eq).set = ((oV).view.slice (orow (wid L))).set
  rw [View.set_reshape]
  exact orowK_eq L ▸ rfl

omit [FloatOps F] in
theorem pts_oRowK (f : Buf (Elt F) (outLoc d)) :
    ((oRowK L).view.loc (V d (cV L) (jV L)) ↦[(oRowK L).view.set]{fullShare} f : sProp 𝕄) = outLoc d ↦[oRowSet (wid L)]{fullShare} f := by
  rw [set_oRowK]
omit [FloatOps F] in
theorem pts_tV (q : PosShare TreeShare) (f : Buf (Elt F) (tabLoc d)) :
    ((tV).view.loc (V d (cV L) (jV L)) ↦{q} f : sProp 𝕄) = tabLoc d ↦{q} f := rfl
omit [FloatOps F] in
theorem pts_xV (q : PosShare TreeShare) (f : Buf (Elt F) (ixLoc d)) :
    ((xV).view.loc (V d (cV L) (jV L)) ↦{q} f : sProp 𝕄) = ixLoc d ↦{q} f := rfl

omit [FloatOps F] in
theorem set_tAllK : (tAllK).view.set = Finset.univ := by
  show ((View.whole (main_v3_scv : Ref sig .scVector)).slice _).set = _
  rw [View.set_slice]
  refine Finset.eq_univ_of_forall fun x => Finset.mem_map.mpr ⟨x, ?_, rfl⟩
  rw [← Rect.map_emb_univ]
  refine Finset.mem_map.mpr ⟨x, Finset.mem_univ _, funext fun a => Fin.ext ?_⟩
  rw [Rect.emb_apply]
  match a with
  | 0 => show 0 + 1 * (x 0).val = (x 0).val; omega

/-- What a chunk's copy lands: the chunk of the worker's indices. -/
theorem read_xChunkK (r : Fin 4) (ixs : Buf (Elt F) (ixLoc d)) :
    (xChunkK L r).view.read (Elt F) ixs = chunk ixs (wid L).val r.val := by
  funext x
  rw [show (xChunkK L r).view.read (Elt F) ixs x = ixs ((xChunkK L r).view.emb x) from (View.read_apply _ _).trans (cast_eq _ _)]
  unfold chunk; congr 1
  funext a
  match a with
  | 0 =>
    apply Fin.ext
    have h0 : (L 0).val < 2 := (L 0).isLt
    have h1 : (L 1).val < 16 := (L 1).isLt
    have hx : (x 0).val < 25600 := (x 0).isLt
    have hr := r.isLt
    have e : ((xChunkK L r).view.emb x 0).val = (k1_off1 L (BitVec.ofNat 32 (25600 * r.val))) 0 + 1 * (x 0).val := rfl
    rw [e, k1_off1_eq]
    show 204800 * (L 1).val + 102400 * (L 0).val + 25600 * r.val + 1 * (x 0).val
      = (102400 * (2 * (L 1).val + (L 0).val) + 25600 * r.val + (x 0).val) % 3276800
    omega

/-- The chunk's indices are in the table. -/
theorem chunk_inRange {ixs : S3276800.Idx → BitVec 32} (h : InRange ixs) (w j : ℕ) :
    ∀ x, ((sV).view.read (Elt F) (chunk ixs w j) x).toNat < S1015808.size gathers_S1015808_S25600.axis := by
  intro x; exact h _

/-- The indirect copy's payload is the table's entries at the list. -/
theorem payload_eq (tab : Buf (Elt F) (tabLoc d)) (fo : S25600.Idx → BitVec 32)
    (hin : ∀ x, ((sV).view.read (Elt F) fo x).toNat < S1015808.size gathers_S1015808_S25600.axis) :
    SparseCore.gatherPayload gathers_S1015808_S25600 ((tAllK).view.read (Elt F) tab)
      (SparseCore.rows ((sV).view.read (Elt F) fo) rfl hin) = lookup tab fo := by
  funext x
  unfold SparseCore.gatherPayload lookup
  rw [show ∀ y, (tAllK).view.read (Elt F) tab y = tab ((tAllK).view.emb y) from fun y => (View.read_apply _ _).trans (cast_eq _ _)]
  congr 1
  funext a
  match a with
  | 0 =>
    apply Fin.ext
    have hx : (fo x).toNat < 1015808 := hin x
    have e : (S25600.rowMajor.symm ((x 0).cast rfl : Fin S25600.numel)) = x := by
      rw [Equiv.symm_apply_eq]
      exact Fin.ext (Shape.rowMajor_val_one x).symm
    show 0 + 1 * (fo (S25600.rowMajor.symm ((x 0).cast rfl : Fin S25600.numel))).toNat = (fo x).toNat % 1015808
    rw [e]; omega

/-- A whole-vector load of sixteen gathered entries at an offset is the trip's lanes. -/
theorem load_lane (G : S25600.Idx → F .f32) (o : Fin 1 → ℕ) (h : ∀ a, o a + S16.size a ≤ S25600.size a) (k u : ℕ)
    (ho : o 0 = 64 * k + 16 * u) :
    (rV).view.readAt (Elt F) (Rect.unit (s := S25600) o S16.size h).toLoadRect G = lane G k u := by
  funext x
  rw [View.readAt_rect]
  rw [show ∀ y, ((rV).view.slice (Rect.unit (s := S25600) o S16.size h)).read (Elt F) G y
    = G (((rV).view.slice (Rect.unit (s := S25600) o S16.size h)).emb y) from fun y => (View.read_apply _ _).trans (cast_eq _ _)]
  unfold lane
  congr 1
  funext a
  match a with
  | 0 =>
    apply Fin.ext
    have h0 := h 0
    have hx : (x 0).val < 16 := (x 0).isLt
    show o 0 + 1 * (x 0).val = (64 * k + 16 * u + (x 0).val) % 25600
    have : o 0 + 16 ≤ 25600 := h0
    omega

end Tile

end Cert.Proof.KernelIdeal

end
-- ==== Proof.KITile.lean ====
/-
  The run of one worker of the SparseCore call: from a share of the table, a share of the list of indices (all in
  range), its row of the result and its own memory and semaphores, the body ends with the row at the worker's
  partial sums and everything else handed back.
-/
module

public import proofs.«01_k».proof.Proof.KIGather
public import Idealize.ShloMosaic.Lib.Pipeline.Value
public import Idealize.ShloMosaic.Lib.VecWindow
public import Idealize.ShloMosaic.Lib.ViewIndex

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "tV" => (Memref.whole Cert.KernelIdeal.main_v3_scv : Memref Cert.KernelIdeal.sig Kind.scVector Space.hbm Cert.KernelIdeal.S1015808 EltTy.f32)
local notation "xV" => (Memref.whole Cert.KernelIdeal.main_v4_scv : Memref Cert.KernelIdeal.sig Kind.scVector Space.hbm Cert.KernelIdeal.S3276800 EltTy.i32)
local notation "oV" => (Memref.whole Cert.KernelIdeal.main_v5_scv : Memref Cert.KernelIdeal.sig Kind.scVector Space.hbm Cert.KernelIdeal.S32x16 EltTy.f32)
local notation "sV" => (Memref.whole Cert.KernelIdeal.cc1_scratch0 : Memref Cert.KernelIdeal.sig Kind.scVector Space.vmem Cert.KernelIdeal.S25600 EltTy.i32)
local notation "rV" => (Memref.whole Cert.KernelIdeal.cc1_scratch1 : Memref Cert.KernelIdeal.sig Kind.scVector Space.vmem Cert.KernelIdeal.S25600 EltTy.f32)
local notation "aV" => (Memref.whole Cert.KernelIdeal.cc1_scratch2 : Memref Cert.KernelIdeal.sig Kind.scVector Space.vmem Cert.KernelIdeal.S16 EltTy.f32)

section Tile

variable (d : Dev nD) (L : grid1.Coords)

/-- The thread that runs the worker. -/
abbrev thr (d : Dev nD) (L : grid1.Coords) : Thread nD τ := V d (cV L) (jV L)

/-- The cell of a DMA semaphore of the worker. -/
abbrev cellOf (d : Dev nD) (L : grid1.Coords) (s : DmaSem sig) : GSem nD τ sig := (thr d L, .dma s)

theorem cellOf_ne {s s' : DmaSem sig} (h : s ≠ s') : cellOf d L s ≠ cellOf d L s' :=
  fun e => h (SemLoc.dma.inj (congrArg Prod.snd e))

theorem mem_cells (s : DmaSem sig) (h : (SemLoc.dma s : SemLoc sig).isScoped .scVector = true) : cellOf d L s ∈ ownCells (thr d L) :=
  mem_ownCells.mpr ⟨rfl, h⟩

/-- The worker's six DMA semaphores are among its own: they are they, at zero, and the rest. -/
theorem ownSems0_six :
    ∃ R : sProp 𝕄, (ownSems0 (thr d L) : sProp 𝕄)
      = iprop(semVal (cellOf d L cc1_scratch3.sem) 0 ∗ semVal (cellOf d L cc1_scoped0.sem) 0 ∗ semVal (cellOf d L cc1_scoped1.sem) 0
          ∗ semVal (cellOf d L cc1_scoped2.sem) 0 ∗ semVal (cellOf d L cc1_scoped3.sem) 0 ∗ semVal (cellOf d L cc1_scoped4.sem) 0 ∗ R) := by
  refine ⟨bigSep (((((((ownCells (thr d L)).erase (cellOf d L cc1_scratch3.sem)).erase (cellOf d L cc1_scoped0.sem)).erase
    (cellOf d L cc1_scoped1.sem)).erase (cellOf d L cc1_scoped2.sem)).erase (cellOf d L cc1_scoped3.sem)).erase (cellOf d L cc1_scoped4.sem))
    fun g => semVal g 0, ?_⟩
  unfold SparseCore.Cfg.ownSems0
  rw [SparseCore.bigSep_erase' (mem_cells d L cc1_scratch3.sem (by decide)),
    SparseCore.bigSep_erase' (Finset.mem_erase.mpr ⟨cellOf_ne d L (s := cc1_scoped0.sem) (by decide), mem_cells d L _ (by decide)⟩),
    SparseCore.bigSep_erase' (Finset.mem_erase.mpr ⟨cellOf_ne d L (s := cc1_scoped1.sem) (by decide),
      Finset.mem_erase.mpr ⟨cellOf_ne d L (by decide), mem_cells d L _ (by decide)⟩⟩),
    SparseCore.bigSep_erase' (Finset.mem_erase.mpr ⟨cellOf_ne d L (s := cc1_scoped2.sem) (by decide),
      Finset.mem_erase.mpr ⟨cellOf_ne d L (by decide), Finset.mem_erase.mpr ⟨cellOf_ne d L (by decide), mem_cells d L _ (by decide)⟩⟩⟩),
    SparseCore.bigSep_erase' (Finset.mem_erase.mpr ⟨cellOf_ne d L (s := cc1_scoped3.sem) (by decide),
      Finset.mem_erase.mpr ⟨cellOf_ne d L (by decide), Finset.mem_erase.mpr ⟨cellOf_ne d L (by decide),
        Finset.mem_erase.mpr ⟨cellOf_ne d L (by decide), mem_cells d L _ (by decide)⟩⟩⟩⟩),
    SparseCore.bigSep_erase' (Finset.mem_erase.mpr ⟨cellOf_ne d L (s := cc1_scoped4.sem) (by decide),
      Finset.mem_erase.mpr ⟨cellOf_ne d L (by decide), Finset.mem_erase.mpr ⟨cellOf_ne d L (by decide),
        Finset.mem_erase.mpr ⟨cellOf_ne d L (by decide), Finset.mem_erase.mpr ⟨cellOf_ne d L (by decide), mem_cells d L _ (by decide)⟩⟩⟩⟩⟩)]

/-- The worker's three buffers are among its own: they are they, at some contents, and the rest. -/
theorem ownBufs_three :
    ∃ R : sProp 𝕄, (ownBufs (thr d L) : sProp 𝕄)
      = iprop((∃ f, (sV).view.loc (thr d L) ↦{fullShare} f) ∗ (∃ f, (rV).view.loc (thr d L) ↦{fullShare} f)
          ∗ (∃ f, (aV).view.loc (thr d L) ↦{fullShare} f) ∗ R) := by
  refine ⟨bigSep ((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2))
    fun b => iprop(∃ f, ((d, b) : Loc nD τ sig) ↦{fullShare} f), ?_⟩
  unfold SparseCore.Cfg.ownBufs
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨hne cc1_scratch1 cc1_scratch0 (by decide), SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide),
      Finset.mem_erase.mpr ⟨hne cc1_scratch2 cc1_scratch0 (by decide), SparseCore.Cfg.mem_ownRefs_of_owner (p := Proc.scVector (cV L) (jV L)) (b := (Proc.scVector (cV L) (jV L)).devRef cc1_scratch2) rfl⟩⟩)]

variable [FloatOps F]

/-- The invariant of a loop: the gathered chunk in its buffer and the accumulators after `k` trips. -/
def loopInv (G : S25600.Idx → F .f32) (a : Acc4 F) (k : ℕ) (b : Acc4 F) : sProp 𝕄 :=
  iprop(((rV).view.loc (thr d L) ↦{fullShare} G) ∗ ⌜b = accAfter G a k⌝)

/-- Fetching a chunk: the copy of chunk `r` of the worker's indices into its memory, and its wait. -/
theorem fetch_spec (r : Fin 4) (sem : DmaSem sig) (q : PosShare TreeShare) (ixs : Buf (Elt F) ((xV).view.loc (thr d L)))
    (fs : Buf (Elt F) ((sV).view.loc (thr d L))) (O : CellTallies nD τ sig (HIx 1)) (W : Waits sig (HIx 1)) (Q : sProp 𝕄)
    {h1 h2 h3 h4 h5} :
    iprop(Transfers.MayWaits (thr d L) (default : HIx 1) O ∗ ((xV).view.loc (thr d L) ↦{q} ixs) ∗ ((sV).view.loc (thr d L) ↦{fullShare} fs)
        ∗ semVal (cellOf d L sem) 0 ∗ owes (thr d L) O W
        ∗ (((xV).view.loc (thr d L) ↦{q} ixs) ∗ ((sV).view.loc (thr d L) ↦{fullShare} chunk ixs (wid L).val r.val)
          ∗ semVal (cellOf d L sem) 0 ∗ owes (thr d L) O (insert (SemLoc.dma sem, default) W) -∗ Q))
      ⊢ wp frame (wpE (defs₀ (F := F)) 𝒱₀ (thr d L) none) Set.univ
          (Prog.lift (.enqueueDma (xChunkK L r) (.here sV) (.dma sem) h1 h2 h3) : Prog (TpuEff nD τ sig (Elt F) Λ₀ (thr d L).2) PUnit)
          fun _ => wp frame (wpE (defs₀ (F := F)) 𝒱₀ (thr d L) none) Set.univ
            (Prog.lift (.waitDma2 sem (xChunkK L r) sV h4 h5) : Prog (TpuEff nD τ sig (Elt F) Λ₀ (thr d L).2) PUnit) fun _ => Q := by
  rw [← wp_bind]
  iintro ⟨#Hmw, Hx, Hs, Hc, HO, HQ⟩
  sl_exec
  rw [wp_ret]; imodintro
  iapply HQ
  isplitl [Hx]; · iexact Hx
  isplitl [Hs]
  · iapply (Entails.of_eq (show ((sV).view.loc (thr d L) ↦{fullShare} View.write (Elt F) (sV).view fs (fetch_spec.sl.dma0 d L r ixs) Finset.univ : sProp 𝕄)
      = (sV).view.loc (thr d L) ↦{fullShare} chunk ixs (wid L).val r.val by
        rw [View.write_whole_univ, show fetch_spec.sl.dma0 d L r ixs = (xChunkK L r).view.read (Elt F) ixs from rfl, read_xChunkK]))
    iexact Hs
  isplitl [Hc]; · iexact Hc
  iexact HO

/-- What an issued gather delivers at its wait: the gathered entries, the table's share and the list's buffer. -/
def gathering (q : PosShare TreeShare) (tab : S1015808.Idx → F .f32) (L' : S25600.Idx → BitVec 32) : sProp 𝕄 :=
  Transfers.Flight (countersEmb (U := UU)) (thr d L) (.dma cc1_scratch3.sem) (default : HIx 1) (rV).view.dmaCredit
    iprop(((rV).view.loc (thr d L) ↦{fullShare} lookup tab L') ∗ ((tV).view.loc (thr d L) ↦{q} tab) ∗ ((sV).view.loc (thr d L) ↦{fullShare} L'))

/-- Issuing a gather. -/
theorem issue_spec (q : PosShare TreeShare) (tab : S1015808.Idx → F .f32) (L' : S25600.Idx → BitVec 32)
    (hin : ∀ x, ((sV).view.read (Elt F) L' x).toNat < S1015808.size gathers_S1015808_S25600.axis)
    (fr : Buf (Elt F) ((rV).view.loc (thr d L))) (Q : sProp 𝕄) {h1 h2 h3 h4 h5 h6} :
    iprop(((tV).view.loc (thr d L) ↦{q} tab) ∗ ((rV).view.loc (thr d L) ↦{fullShare} fr) ∗ ((sV).view.loc (thr d L) ↦{fullShare} L')
        ∗ semVal (cellOf d L cc1_scratch3.sem) 0 ∗ (gathering d L q tab L' -∗ Q))
      ⊢ wp frame (wpE (defs₀ (F := F)) 𝒱₀ (thr d L) none) Set.univ
          (SparseCore.enqueueIndirectGather h1 tAllK rV gathers_S1015808_S25600 sV h2 cc1_scratch3.sem h3 h4 h5 h6
            : Prog (TpuEff nD τ sig (Elt F) Λ₀ (thr d L).2) PUnit)
          fun _ => Q := by
  have hN : ∑ j, ((rV).slice (S25600.rowRect gathers_S1015808_S25600.axis' j) (S25600.stride_rowRect gathers_S1015808_S25600.axis' j)).view.dmaCredit
      = (rV).view.dmaCredit :=
    SparseCore.sum_rowCredit_eq (K := ((rV).slice (S25600.rowRect gathers_S1015808_S25600.axis' ⟨0, by decide⟩) (S25600.stride_rowRect gathers_S1015808_S25600.axis' ⟨0, by decide⟩)).view.dmaCredit)
      _ (fun j => rfl) (by decide)
  have hrs : (rV).view.set = Finset.univ := View.set_whole _
  have hss : (sV).view.set = Finset.univ := View.set_whole _
  have key := SparseCore.wp_indirectGatherLocal (F := F) (countersEmb (U := UU)) (defs := defs₀ (F := F)) 𝒱₀ (thr d L) none (hg := gathers_S1015808_S25600)
    (src := tAllK) (dst := rV) (offs := sV) (hn := h2) (sem := cc1_scratch3.sem) (hp := h1) (hsrc := h3) (he := h4) (hsp := h5) (hr := h6)
    (q := q) (qo := fullShare) (fs := tab) (fd := fr) (fo := L') (k := Prog.ret) (Q := fun _ => Q)
    (default : HIx 1) (rV).view.dmaCredit hN (by decide) hin
  rw [hrs, hss, set_tAllK, View.write_whole_univ, payload_eq d tab L' hin, show (Prog.ret : PUnit → Prog (TpuEff nD τ sig (Elt F) Λ₀ (thr d L).2) PUnit) = Pure.pure from rfl, bind_pure] at key
  iintro ⟨Ht, Hr, Hs, Hc, HQ⟩
  iapply key $$ [Ht Hr Hs Hc]
  · isplitl [Ht]; · iexact Ht
    isplitl [Hr]; · iexact Hr
    isplitl [Hs]; · iexact Hs
    iexact Hc
  iintro Hfl
  rw [wp_pure]; imodintro
  iapply HQ; unfold gathering; iexact Hfl

/-- Waiting for a gather. -/
theorem await_spec (q : PosShare TreeShare) (tab : S1015808.Idx → F .f32) (L' : S25600.Idx → BitVec 32)
    (O : CellTallies nD τ sig (HIx 1)) (W : Waits sig (HIx 1)) (Q : sProp 𝕄) {h1 h2} :
    iprop(gathering d L q tab L' ∗ Transfers.MayWaits (thr d L) (default : HIx 1) O ∗ owes (thr d L) O W
        ∗ (((tV).view.loc (thr d L) ↦{q} tab) ∗ ((rV).view.loc (thr d L) ↦{fullShare} lookup tab L') ∗ ((sV).view.loc (thr d L) ↦{fullShare} L')
          ∗ semVal (cellOf d L cc1_scratch3.sem) 0 ∗ owes (thr d L) O (insert (SemLoc.dma cc1_scratch3.sem, default) W) -∗ Q))
      ⊢ wp frame (wpE (defs₀ (F := F)) 𝒱₀ (thr d L) none) Set.univ
          (SparseCore.waitIndirectGather cc1_scratch3.sem tAllK rV h1 h2 : Prog (TpuEff nD τ sig (Elt F) Λ₀ (thr d L).2) PUnit)
          fun _ => Q := by
  have key := Transfers.wp_waitLocalO (Q := fun _ => Q) (k := Prog.ret) (countersEmb (U := UU)) (defs := defs₀ (F := F)) 𝒱₀ (thr d L) none (sem := cc1_scratch3.sem) (srcw := tAllK) (dstw := rV)
    (hsrc := h1) (hdst := h2) (default : HIx 1) (rfl : (rV).view.dmaCredit = _)
    (D := iprop(((rV).view.loc (thr d L) ↦{fullShare} lookup tab L') ∗ ((tV).view.loc (thr d L) ↦{q} tab) ∗ ((sV).view.loc (thr d L) ↦{fullShare} L'))) (O := O) (W := W)
  iintro ⟨Hfl, #Hmw, HO, HQ⟩
  unfold gathering
  iapply key $$ [Hfl HO]
  · isplitl [Hfl]; · iexact Hfl
    isplitl [HO]; · iexact HO
    iapply (Transfers.MayWaits.elim (SemLoc.dma cc1_scratch3.sem)) $$ Hmw
  iintro ⟨⟨Hr, Ht, Hs⟩, Hc, HO⟩
  rw [wp_ret]; imodintro
  iapply HQ
  isplitl [Ht]; · iexact Ht
  isplitl [Hr]; · iexact Hr
  isplitl [Hs]; · iexact Hs
  isplitl [Hc]; · iexact Hc
  iexact HO

/-- The first loop adds the chunk's 400 trips to the accumulators. -/
theorem loop1_spec (G : S25600.Idx → F .f32) (a : Acc4 F) (Q : Acc4 F → sProp 𝕄) {h1 h2 h3 h4 h5 h6} :
    iprop(((rV).view.loc (thr d L) ↦{fullShare} G) ∗ (((rV).view.loc (thr d L) ↦{fullShare} G) -∗ Q (accAfter G a 400)))
      ⊢ wp frame (wpE (defs₀ (F := F)) 𝒱₀ (thr d L) none) Set.univ
          (Scf.Loop.for k1_t1_loop k1_t1_ok a (k1_t1_body L tV h1 xV h2 oV h3 sV h4 rV h5 aV h6 cc1_scratch3
            cc1_scoped0 cc1_scoped1 cc1_scoped2 cc1_scoped3 cc1_scoped4) : Prog (TpuEff nD τ sig (Elt F) Λ₀ (thr d L).2) (Acc4 F))
          Q := by
  refine BIBase.Entails.trans ?_ (Scf.wp_for frame _ Set.univ _ _ _ k1_t1_ok a _ (loopInv d L G a) ?_)
  · unfold loopInv
    iintro ⟨HG, HQ⟩
    isplitl [HG]
    · isplitl [HG]; · iexact HG
      ipureintro; rfl
    iintro %b ⟨HG, %hb⟩
    rw [show Scf.trips k1_t1_loop.lb k1_t1_loop.ub k1_t1_loop.st = 400 by decide] at hb
    subst hb
    iapply HQ; iexact HG
  · intro k b
    unfold loopInv k1_t1_body
    iintro ⟨HG, %hb⟩
    sl_exec
    rw [wp_ret]; imodintro
    isplitl [HG]; · iexact HG
    ipureintro
    subst hb
    have e : ∀ r : Fin 3, k1_off3 k (BitVec.ofNat 32 (16 + 16 * r.val)) 0 = 64 * k.val + 16 * (r.val + 1) := fun r => by
      rw [k1_off3_eq]; show 64 * k.val + 16 * r.val + 16 = _; omega
    simp only [accAfter, trip]
    rw [load_lane G (k1_off2 k) _ k.val 0 (by rw [k1_off2_eq]; rfl), load_lane G (k1_off3 k 16#32) _ k.val 1 (e 0), load_lane G (k1_off3 k 32#32) _ k.val 2 (e 1),
      load_lane G (k1_off3 k 48#32) _ k.val 3 (e 2)]
    simp only [k1_pay11, k1_pay12, k1_pay13, k1_pay14, shapeCast_self]

/-- The second loop adds the chunk's 400 trips to the accumulators. -/
theorem loop2_spec (G : S25600.Idx → F .f32) (a : Acc4 F) (Q : Acc4 F → sProp 𝕄) {h1 h2 h3 h4 h5 h6} :
    iprop(((rV).view.loc (thr d L) ↦{fullShare} G) ∗ (((rV).view.loc (thr d L) ↦{fullShare} G) -∗ Q (accAfter G a 400)))
      ⊢ wp frame (wpE (defs₀ (F := F)) 𝒱₀ (thr d L) none) Set.univ
          (Scf.Loop.for k1_t2_loop k1_t2_ok a (k1_t2_body L tV h1 xV h2 oV h3 sV h4 rV h5 aV h6 cc1_scratch3
            cc1_scoped0 cc1_scoped1 cc1_scoped2 cc1_scoped3 cc1_scoped4) : Prog (TpuEff nD τ sig (Elt F) Λ₀ (thr d L).2) (Acc4 F))
          Q := by
  refine BIBase.Entails.trans ?_ (Scf.wp_for frame _ Set.univ _ _ _ k1_t2_ok a _ (loopInv d L G a) ?_)
  · unfold loopInv
    iintro ⟨HG, HQ⟩
    isplitl [HG]
    · isplitl [HG]; · iexact HG
      ipureintro; rfl
    iintro %b ⟨HG, %hb⟩
    rw [show Scf.trips k1_t2_loop.lb k1_t2_loop.ub k1_t2_loop.st = 400 by decide] at hb
    subst hb
    iapply HQ; iexact HG
  · intro k b
    unfold loopInv k1_t2_body
    iintro ⟨HG, %hb⟩
    sl_exec
    rw [wp_ret]; imodintro
    isplitl [HG]; · iexact HG
    ipureintro
    subst hb
    have e : ∀ r : Fin 3, k1_off5 k (BitVec.ofNat 32 (16 + 16 * r.val)) 0 = 64 * k.val + 16 * (r.val + 1) := fun r => by
      rw [k1_off5_eq]; show 64 * k.val + 16 * r.val + 16 = _; omega
    simp only [accAfter, trip]
    rw [load_lane G (k1_off4 k) _ k.val 0 (by rw [k1_off4_eq]; rfl), load_lane G (k1_off5 k 16#32) _ k.val 1 (e 0), load_lane G (k1_off5 k 32#32) _ k.val 2 (e 1),
      load_lane G (k1_off5 k 48#32) _ k.val 3 (e 2)]
    simp only [k1_pay15, k1_pay16, k1_pay17, k1_pay18, shapeCast_self]

/-- The third loop adds the chunk's 400 trips to the accumulators. -/
theorem loop3_spec (G : S25600.Idx → F .f32) (a : Acc4 F) (Q : Acc4 F → sProp 𝕄) {h1 h2 h3 h4 h5 h6} :
    iprop(((rV).view.loc (thr d L) ↦{fullShare} G) ∗ (((rV).view.loc (thr d L) ↦{fullShare} G) -∗ Q (accAfter G a 400)))
      ⊢ wp frame (wpE (defs₀ (F := F)) 𝒱₀ (thr d L) none) Set.univ
          (Scf.Loop.for k1_t3_loop k1_t3_ok a (k1_t3_body L tV h1 xV h2 oV h3 sV h4 rV h5 aV h6 cc1_scratch3
            cc1_scoped0 cc1_scoped1 cc1_scoped2 cc1_scoped3 cc1_scoped4) : Prog (TpuEff nD τ sig (Elt F) Λ₀ (thr d L).2) (Acc4 F))
          Q := by
  refine BIBase.Entails.trans ?_ (Scf.wp_for frame _ Set.univ _ _ _ k1_t3_ok a _ (loopInv d L G a) ?_)
  · unfold loopInv
    iintro ⟨HG, HQ⟩
    isplitl [HG]
    · isplitl [HG]; · iexact HG
      ipureintro; rfl
    iintro %b ⟨HG, %hb⟩
    rw [show Scf.trips k1_t3_loop.lb k1_t3_loop.ub k1_t3_loop.st = 400 by decide] at hb
    subst hb
    iapply HQ; iexact HG
  · intro k b
    unfold loopInv k1_t3_body
    iintro ⟨HG, %hb⟩
    sl_exec
    rw [wp_ret]; imodintro
    isplitl [HG]; · iexact HG
    ipureintro
    subst hb
    have e : ∀ r : Fin 3, k1_off7 k (BitVec.ofNat 32 (16 + 16 * r.val)) 0 = 64 * k.val + 16 * (r.val + 1) := fun r => by
      rw [k1_off7_eq]; show 64 * k.val + 16 * r.val + 16 = _; omega
    simp only [accAfter, trip]
    rw [load_lane G (k1_off6 k) _ k.val 0 (by rw [k1_off6_eq]; rfl), load_lane G (k1_off7 k 16#32) _ k.val 1 (e 0), load_lane G (k1_off7 k 32#32) _ k.val 2 (e 1),
      load_lane G (k1_off7 k 48#32) _ k.val 3 (e 2)]
    simp only [k1_pay1, k1_pay2, k1_pay3, k1_pay4, shapeCast_self]

/-- The fourth loop adds the chunk's 400 trips to the accumulators. -/
theorem loop4_spec (G : S25600.Idx → F .f32) (a : Acc4 F) (Q : Acc4 F → sProp 𝕄) {h1 h2 h3 h4 h5 h6} :
    iprop(((rV).view.loc (thr d L) ↦{fullShare} G) ∗ (((rV).view.loc (thr d L) ↦{fullShare} G) -∗ Q (accAfter G a 400)))
      ⊢ wp frame (wpE (defs₀ (F := F)) 𝒱₀ (thr d L) none) Set.univ
          (Scf.Loop.for k1_t4_loop k1_t4_ok a (k1_t4_body L tV h1 xV h2 oV h3 sV h4 rV h5 aV h6 cc1_scratch3
            cc1_scoped0 cc1_scoped1 cc1_scoped2 cc1_scoped3 cc1_scoped4) : Prog (TpuEff nD τ sig (Elt F) Λ₀ (thr d L).2) (Acc4 F))
          Q := by
  refine BIBase.Entails.trans ?_ (Scf.wp_for frame _ Set.univ _ _ _ k1_t4_ok a _ (loopInv d L G a) ?_)
  · unfold loopInv
    iintro ⟨HG, HQ⟩
    isplitl [HG]
    · isplitl [HG]; · iexact HG
      ipureintro; rfl
    iintro %b ⟨HG, %hb⟩
    rw [show Scf.trips k1_t4_loop.lb k1_t4_loop.ub k1_t4_loop.st = 400 by decide] at hb
    subst hb
    iapply HQ; iexact HG
  · intro k b
    unfold loopInv k1_t4_body
    iintro ⟨HG, %hb⟩
    sl_exec
    rw [wp_ret]; imodintro
    isplitl [HG]; · iexact HG
    ipureintro
    subst hb
    have e : ∀ r : Fin 3, k1_off9 k (BitVec.ofNat 32 (16 + 16 * r.val)) 0 = 64 * k.val + 16 * (r.val + 1) := fun r => by
      rw [k1_off9_eq]; show 64 * k.val + 16 * r.val + 16 = _; omega
    simp only [accAfter, trip]
    rw [load_lane G (k1_off8 k) _ k.val 0 (by rw [k1_off8_eq]; rfl), load_lane G (k1_off9 k 16#32) _ k.val 1 (e 0), load_lane G (k1_off9 k 32#32) _ k.val 2 (e 1),
      load_lane G (k1_off9 k 48#32) _ k.val 3 (e 2)]
    simp only [k1_pay5, k1_pay6, k1_pay7, k1_pay8, shapeCast_self]

/-- The worker's row, written with its partial sums, is the row of the result. -/
theorem out_row (tab : S1015808.Idx → F .f32) (ixs : S3276800.Idx → BitVec 32) (fo : Buf (Elt F) (outLoc d)) :
    ((oRowK L).view.loc (thr d L) ↦[(oRowK L).view.set]{fullShare} (oRowK L).view.write (Elt F) fo (partialSums tab ixs (wid L).val) Finset.univ : sProp 𝕄)
      = ((oRowK L).view.loc (thr d L) ↦[(oRowK L).view.set]{fullShare} (show Buf (Elt F) (outLoc d) from allSums tab ixs)) := by
  refine pointsTo_congr fun y hy => ?_
  obtain ⟨x, -, rfl⟩ := Finset.mem_map.mp hy
  apply View.eq_of_read_eq (Val := Elt F)
  rw [View.read_write_of_mem (Val := Elt F) _ _ (Finset.mem_univ x),
    show (oRowK L).view.read (Elt F) (show Buf (Elt F) (outLoc d) from allSums tab ixs) x = allSums tab ixs ((oRowK L).view.emb x) from
      (View.read_apply _ _).trans (cast_eq _ _)]
  have hx : (x 0).val < 16 := (x 0).isLt
  have er : (Shape.reshapeEquiv squeezes_S1x16_S16.numel_eq x : S1x16.Idx) = (fun | 0 => (0 : Fin 1) | 1 => (x 0 : Fin 16)) :=
    Shape.reshapeEquiv_eq_of_rowMajor _ (by
      rw [Shape.rowMajor_val_two, Shape.rowMajor_val_one]
      show 0 * 16 + (x 0).val = (x 0).val
      omega)
  have e0 : (((oRowK L).view.emb x) 0).val = (k1_off10 L) 0 + 1 * ((Shape.reshapeEquiv squeezes_S1x16_S16.numel_eq x : S1x16.Idx) 0).val := rfl
  have e1 : (((oRowK L).view.emb x) 1).val = (k1_off10 L) 1 + 1 * ((Shape.reshapeEquiv squeezes_S1x16_S16.numel_eq x : S1x16.Idx) 1).val := rfl
  rw [er, k1_off10_eq] at e0 e1
  unfold allSums
  congr 1
  · rw [e0]; show 2 * (L 1).val + (L 0).val = 2 * (L 1).val + (L 0).val + 1 * 0; omega
  · funext a
    match a with
    | 0 => exact Fin.ext (e1.trans (by show 0 + 1 * (x 0).val = (x 0).val; omega)).symm

/-- A row written whole with what the worker's memory reads, just after `v` was stored there, is written with `v`. -/
theorem finish_row (v : FVec F S16 .f32) (fa : Buf (Elt F) ((aV).view.loc (thr d L))) (fo : Buf (Elt F) (outLoc d)) :
    ((oRowK L).view.loc (thr d L) ↦[(oRowK L).view.set]{fullShare} (oRowK L).view.writes (Elt F) fo [⟨Rect.whole S16,
        (aV).view.read (Elt F) ((aV).view.writes (Elt F) fa [⟨Rect.unit ![0] ![16] inb_S16_S16_0, v⟩])⟩] : sProp 𝕄)
      = ((oRowK L).view.loc (thr d L) ↦[(oRowK L).view.set]{fullShare} (oRowK L).view.write (Elt F) fo v Finset.univ) := by
  have ha : (aV).view.read (Elt F) ((aV).view.writes (Elt F) fa [⟨Rect.unit ![0] ![16] inb_S16_S16_0, v⟩]) = v :=
    View.read_writes_full _ _ _ _ _
  rw [ha]
  refine pointsTo_congr fun y hy => ?_
  obtain ⟨x, -, rfl⟩ := Finset.mem_map.mp hy
  apply View.eq_of_read_eq (Val := Elt F)
  rw [View.read_write_of_mem (Val := Elt F) _ _ (Finset.mem_univ x)]
  exact congrFun (View.read_writes_full (oRowK L).view fo (off := fun _ => 0) (fun a => by simp) v []) x

/-- The end of a worker's body: its partial sums go into its memory, and from there to its row of the result. -/
theorem finish_spec (v : FVec F S16 .f32) (fa : Buf (Elt F) ((aV).view.loc (thr d L))) (fo : Buf (Elt F) (outLoc d))
    (O : CellTallies nD τ sig (HIx 1)) (W : Waits sig (HIx 1)) (Q : sProp 𝕄) {h0 h1 h2 h3 h4 h5 h6 h7} :
    iprop(Transfers.MayWaits (thr d L) (default : HIx 1) O ∗ ((aV).view.loc (thr d L) ↦{fullShare} fa)
        ∗ ((oRowK L).view.loc (thr d L) ↦[(oRowK L).view.set]{fullShare} fo)
        ∗ semVal (cellOf d L cc1_scoped4.sem) 0 ∗ owes (thr d L) O W
        ∗ (((∃ f, (aV).view.loc (thr d L) ↦{fullShare} f) ∗ (((oRowK L).view.loc (thr d L) ↦[(oRowK L).view.set]{fullShare} (oRowK L).view.write (Elt F) fo v Finset.univ)
          ∗ semVal (cellOf d L cc1_scoped4.sem) 0 ∗ owes (thr d L) O (insert (SemLoc.dma cc1_scoped4.sem, default) W))) -∗ Q))
      ⊢ wp frame (wpE (defs₀ (F := F)) 𝒱₀ (thr d L) none) Set.univ
          (Prog.lift (.load aV (Rect.unit ![0] ![16] inb_S16_S16_0).toLoadRect h1) >>= fun _ =>
            Prog.lift (.store aV (Rect.unit ![0] ![16] inb_S16_S16_0) v Finset.univ h2 h3) >>= fun _ =>
            Prog.lift (.enqueueDma aV (.here (oRowK L)) (.dma cc1_scoped4.sem) h4 h5 h6) >>= fun _ =>
            Prog.lift (.waitDma2 cc1_scoped4.sem aV (oRowK L) h7 h0) : Prog (TpuEff nD τ sig (Elt F) Λ₀ (thr d L).2) PUnit)
          fun _ => Q := by
  iintro ⟨#Hmw, Ha, Ho, Hc, HO, HQ⟩
  sl_exec
  rw [wp_ret]; imodintro
  iapply HQ
  isplitl [Ha]; · iexists _; iexact Ha
  isplitl [Ho]
  · iapply (Entails.of_eq (finish_row d L v fa fo)); iexact Ho
  isplitl [Hc]; · iexact Hc
  iexact HO

set_option maxHeartbeats 4000000 in
/-- The body of worker `L` on device `d`: at the end its row of the result holds its partial sums. -/
theorem tile_body (hF : (K (F := F)).Facts) (q : PosShare TreeShare) (tab : S1015808.Idx → F .f32) (ixs : S3276800.Idx → BitVec 32)
    (hix : InRange ixs) (fo : Buf (Elt F) (outLoc d))
    (O : CellTallies nD τ sig (HIx 1)) (W : Waits sig (HIx 1)) (hO : ∀ g, O g none = 0) :
    (iprop(levAts (K (F := F)).L (K (F := F)).lev ∗ emp
        ∗ ((tabLoc d ↦{q} (show Buf (Elt F) (tabLoc d) from tab)) ∗ (ixLoc d ↦{q} (show Buf (Elt F) (ixLoc d) from ixs)) ∗ outLoc d ↦[oRowSet (wid L)]{fullShare} fo)
        ∗ scopedBufs (thr d L) ∗ scopedSems0 (thr d L) ∗ owes (thr d L) O W) : sProp 𝕄)
      ⊢ wp frame (wpE (defs₀ (F := F)) 𝒱₀ (thr d L) none) Set.univ
          (cc1_sc_gather L tV (Memref.isWhole_whole _) xV (Memref.isWhole_whole _) oV (Memref.isWhole_whole _)
            sV (Memref.isWhole_whole _) rV (Memref.isWhole_whole _) aV (Memref.isWhole_whole _) cc1_scratch3
            cc1_scoped0 cc1_scoped1 cc1_scoped2 cc1_scoped3 cc1_scoped4)
          fun _ => iprop(((tabLoc d ↦{q} (show Buf (Elt F) (tabLoc d) from tab)) ∗ (ixLoc d ↦{q} (show Buf (Elt F) (ixLoc d) from ixs))
              ∗ outLoc d ↦[oRowSet (wid L)]{fullShare} (show Buf (Elt F) (outLoc d) from allSums tab ixs))
            ∗ scopedBufs (thr d L) ∗ scopedSems0 (thr d L)
            ∗ ∃ W', ⌜∀ p ∈ W', p ∈ W ∨ p.2 = none⌝ ∗ owes (thr d L) O W') := by
  obtain ⟨RS, hRS⟩ := ownSems0_six (F := F) d L
  obtain ⟨RB, hRB⟩ := ownBufs_three (F := F) d L
  simp only [cc1_sc_gather_eq_skeleton]; unfold cc1_sc_gather_skel
  simp only [k1_part1_eq_skeleton]; unfold k1_part1_skel
  simp only [wp_bind, wp_pure]
  rw [(K (F := F)).scopedBufs_V hF d (cV L) (jV L), SparseCore.Cfg.scopedSems0_V (Val := Elt F) d (cV L) (jV L), hRS, hRB]
  iintro ⟨#Hlv, -, ⟨Ht, Hx, Ho⟩, ⟨⟨%fs, Hs⟩, ⟨%fr, Hr⟩, ⟨%fa, Ha⟩, Hbufs⟩, ⟨Hsem, Hc0, Hc1, Hc2, Hc3, Hc4, Hsems⟩, HO⟩
  ihave #Hmw := (show levAts (K (F := F)).L (K (F := F)).lev ⊢ Transfers.MayWaits (thr d L) (default : HIx 1) O from
    (K (F := F)).mayWaits_none (thr := thr d L) hO) $$ Hlv
  ihave Ho := (Entails.of_eq (pts_oRowK (F := F) d L _).symm) $$ Ho
  ihave Hx := (Entails.of_eq (pts_xV (F := F) d L _ _).symm) $$ Hx
  ihave Ht := (Entails.of_eq (pts_tV (F := F) d L _ _).symm) $$ Ht
  iapply (fetch_spec d L 0 cc1_scoped0.sem q ixs fs O _)
  isplitl []; · iexact Hmw
  isplitl [Hx]; · iexact Hx
  isplitl [Hs]; · iexact Hs
  isplitl [Hc0]; · iexact Hc0
  isplitl [HO]; · iexact HO
  iintro ⟨Hx, Hs, Hc0, HO⟩
  iapply (issue_spec d L q tab (chunk ixs (wid L).val 0) (chunk_inRange hix _ 0) fr)
  isplitl [Ht]; · iexact Ht
  isplitl [Hr]; · iexact Hr
  isplitl [Hs]; · iexact Hs
  isplitl [Hsem]; · iexact Hsem
  iintro Hfl
  iapply (await_spec d L q tab (chunk ixs (wid L).val 0) O _)
  isplitl [Hfl]; · iexact Hfl
  isplitl []; · iexact Hmw
  isplitl [HO]; · iexact HO
  iintro ⟨Ht, Hr, Hs, Hsem, HO⟩
  iapply (loop1_spec d L (lookup tab (chunk ixs (wid L).val 0)) (accs tab ixs (wid L).val 0))
  isplitl [Hr]; · iexact Hr
  iintro Hr
  iapply (fetch_spec d L 1 cc1_scoped1.sem q ixs (chunk ixs (wid L).val 0) O _)
  isplitl []; · iexact Hmw
  isplitl [Hx]; · iexact Hx
  isplitl [Hs]; · iexact Hs
  isplitl [Hc1]; · iexact Hc1
  isplitl [HO]; · iexact HO
  iintro ⟨Hx, Hs, Hc1, HO⟩
  iapply (issue_spec d L q tab (chunk ixs (wid L).val 1) (chunk_inRange hix _ 1) (lookup tab (chunk ixs (wid L).val 0)))
  isplitl [Ht]; · iexact Ht
  isplitl [Hr]; · iexact Hr
  isplitl [Hs]; · iexact Hs
  isplitl [Hsem]; · iexact Hsem
  iintro Hfl
  iapply (await_spec d L q tab (chunk ixs (wid L).val 1) O _)
  isplitl [Hfl]; · iexact Hfl
  isplitl []; · iexact Hmw
  isplitl [HO]; · iexact HO
  iintro ⟨Ht, Hr, Hs, Hsem, HO⟩
  iapply (loop2_spec d L (lookup tab (chunk ixs (wid L).val 1)) (accs tab ixs (wid L).val 1))
  isplitl [Hr]; · iexact Hr
  iintro Hr
  iapply (fetch_spec d L 2 cc1_scoped2.sem q ixs (chunk ixs (wid L).val 1) O _)
  isplitl []; · iexact Hmw
  isplitl [Hx]; · iexact Hx
  isplitl [Hs]; · iexact Hs
  isplitl [Hc2]; · iexact Hc2
  isplitl [HO]; · iexact HO
  iintro ⟨Hx, Hs, Hc2, HO⟩
  iapply (issue_spec d L q tab (chunk ixs (wid L).val 2) (chunk_inRange hix _ 2) (lookup tab (chunk ixs (wid L).val 1)))
  isplitl [Ht]; · iexact Ht
  isplitl [Hr]; · iexact Hr
  isplitl [Hs]; · iexact Hs
  isplitl [Hsem]; · iexact Hsem
  iintro Hfl
  imodintro
  iapply (await_spec d L q tab (chunk ixs (wid L).val 2) O _)
  isplitl [Hfl]; · iexact Hfl
  isplitl []; · iexact Hmw
  isplitl [HO]; · iexact HO
  iintro ⟨Ht, Hr, Hs, Hsem, HO⟩
  iapply (loop3_spec d L (lookup tab (chunk ixs (wid L).val 2)) (accs tab ixs (wid L).val 2))
  isplitl [Hr]; · iexact Hr
  iintro Hr
  iapply (fetch_spec d L 3 cc1_scoped3.sem q ixs (chunk ixs (wid L).val 2) O _)
  isplitl []; · iexact Hmw
  isplitl [Hx]; · iexact Hx
  isplitl [Hs]; · iexact Hs
  isplitl [Hc3]; · iexact Hc3
  isplitl [HO]; · iexact HO
  iintro ⟨Hx, Hs, Hc3, HO⟩
  iapply (issue_spec d L q tab (chunk ixs (wid L).val 3) (chunk_inRange hix _ 3) (lookup tab (chunk ixs (wid L).val 2)))
  isplitl [Ht]; · iexact Ht
  isplitl [Hr]; · iexact Hr
  isplitl [Hs]; · iexact Hs
  isplitl [Hsem]; · iexact Hsem
  iintro Hfl
  iapply (await_spec d L q tab (chunk ixs (wid L).val 3) O _)
  isplitl [Hfl]; · iexact Hfl
  isplitl []; · iexact Hmw
  isplitl [HO]; · iexact HO
  iintro ⟨Ht, Hr, Hs, Hsem, HO⟩
  iapply (loop4_spec d L (lookup tab (chunk ixs (wid L).val 3)) (accs tab ixs (wid L).val 3))
  isplitl [Hr]; · iexact Hr
  iintro Hr
  iapply (BIBase.Entails.trans (finish_spec d L (partialSums tab ixs (wid L).val) fa fo O _ _) (Entails.of_eq (by simp only [wp_bind]; rfl)))
  isplitl []; · iexact Hmw
  isplitl [Ha]; · iexact Ha
  isplitl [Ho]; · iexact Ho
  isplitl [Hc4]; · iexact Hc4
  isplitl [HO]; · iexact HO
  iintro ⟨Ha, Ho, Hc4, HO⟩
  imodintro
  isplitl [Ht Hx Ho]
  · isplitl [Ht]; · iexact Ht
    isplitl [Hx]; · iexact Hx
    iapply (Entails.of_eq (pts_oRowK (F := F) d L _))
    iapply (Entails.of_eq (out_row d L tab ixs fo))
    iexact Ho
  isplitl [Hs Hr Ha Hbufs]
  · isplitl [Hs]; · iexists _; iexact Hs
    isplitl [Hr]; · iexists _; iexact Hr
    isplitl [Ha]; · iexact Ha
    iexact Hbufs
  isplitl [Hsem Hc0 Hc1 Hc2 Hc3 Hc4 Hsems]
  · isplitl [Hsem]; · iexact Hsem
    isplitl [Hc0]; · iexact Hc0
    isplitl [Hc1]; · iexact Hc1
    isplitl [Hc2]; · iexact Hc2
    isplitl [Hc3]; · iexact Hc3
    isplitl [Hc4]; · iexact Hc4
    iexact Hsems
  iexists _
  isplitl []
  rotate_left
  · iexact HO
  ipureintro
  intro p hp
  simp only [Finset.mem_insert] at hp
  rcases hp with h | h | h | h | h | h | h | h | h | h
  all_goals first | exact Or.inr (h ▸ rfl) | exact Or.inl h

end Tile

end Cert.Proof.KernelIdeal

end
-- ==== Proof.KIShares.lean ====
/-
  What the SparseCore's call is handed and hands back: each of the 32 workers a read share of the whole table and
  of the whole list of indices, and its own row of the result; the workers' parts together are the three buffers whole.
-/
module

public import proofs.«01_k».proof.Proof.KITile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F
local notation "tV" => (Memref.whole Cert.KernelIdeal.main_v3_scv : Memref Cert.KernelIdeal.sig Kind.scVector Space.hbm Cert.KernelIdeal.S1015808 EltTy.f32)
local notation "xV" => (Memref.whole Cert.KernelIdeal.main_v4_scv : Memref Cert.KernelIdeal.sig Kind.scVector Space.hbm Cert.KernelIdeal.S3276800 EltTy.i32)
local notation "oV" => (Memref.whole Cert.KernelIdeal.main_v5_scv : Memref Cert.KernelIdeal.sig Kind.scVector Space.hbm Cert.KernelIdeal.S32x16 EltTy.f32)
local notation "sV" => (Memref.whole Cert.KernelIdeal.cc1_scratch0 : Memref Cert.KernelIdeal.sig Kind.scVector Space.vmem Cert.KernelIdeal.S25600 EltTy.i32)
local notation "rV" => (Memref.whole Cert.KernelIdeal.cc1_scratch1 : Memref Cert.KernelIdeal.sig Kind.scVector Space.vmem Cert.KernelIdeal.S25600 EltTy.f32)
local notation "aV" => (Memref.whole Cert.KernelIdeal.cc1_scratch2 : Memref Cert.KernelIdeal.sig Kind.scVector Space.vmem Cert.KernelIdeal.S16 EltTy.f32)

/-! ### The workers -/

/-- The worker on subcore `i` of SparseCore `c`. -/
def worker (c : Fin 2) (i : Fin 16) : Fin 32 := ⟨2 * i.val + c.val, by omega⟩

/-- The workers are the pairs of a subcore and a SparseCore. -/
def workerEquiv : Fin 2 × Fin 16 ≃ Fin 32 where
  toFun p := worker p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- A resource per worker is a resource per subcore of each SparseCore. -/
theorem bigSep_workers (Φ : Fin 32 → sProp 𝕄) :
    bigSep Finset.univ Φ = bigSep Finset.univ fun c : Fin 2 => bigSep Finset.univ fun i : Fin 16 => Φ (worker c i) := by
  rw [bigSep_univ_equiv workerEquiv Φ, bigSep_univ_prod]
  rfl

/-- A worker's share of what all read. -/
def readShare (w : Fin 32) : PosShare TreeShare := Transfers.dealOf fullShare Finset.univ w

/-! ### A worker's part, and the parts together -/

/-- A worker's part: its shares of the table and of the indices, its row of the result. -/
def part (d : Dev nD) (tab : S1015808.Idx → F .f32) (ixs : S3276800.Idx → BitVec 32) (fo : S32x16.Idx → F .f32) (w : Fin 32) : sProp 𝕄 :=
  iprop((tabLoc d ↦{readShare w} (show Buf (Elt F) (tabLoc d) from tab)) ∗ (ixLoc d ↦{readShare w} (show Buf (Elt F) (ixLoc d) from ixs))
    ∗ outLoc d ↦[oRowSet w]{fullShare} (show Buf (Elt F) (outLoc d) from fo))

instance part_storable (d : Dev nD) (tab : S1015808.Idx → F .f32) (ixs : S3276800.Idx → BitVec 32) (fo : S32x16.Idx → F .f32) (w : Fin 32) :
    BI.Storable (upEmb : UEmb _ 𝕄) (part d tab ixs fo w) := by
  unfold part; infer_instance

theorem rowSet_eq (w : Fin 32) : oRowSet w = (orow w).set := by
  show ((View.whole (main_v5_scv : Ref sig .scVector)).slice (orow w)).set = _
  rw [View.set_slice]; exact Finset.map_refl
theorem rows_disjoint : ∀ w ∈ (Finset.univ : Finset (Fin 32)), ∀ w' ∈ (Finset.univ : Finset (Fin 32)), w ≠ w' → Disjoint (oRowSet w) (oRowSet w') :=
  fun w _ w' _ h => by rw [rowSet_eq, rowSet_eq]; exact Rect.part_disjoint odiv h
theorem rows_cover : (Finset.univ : Finset (Fin 32)).biUnion oRowSet = Finset.univ :=
  (Finset.biUnion_congr rfl fun w _ => rowSet_eq w).trans (Rect.biUnion_part odiv)

/-- The three buffers whole are the workers' parts. -/
theorem parts_eq (d : Dev nD) (tab : S1015808.Idx → F .f32) (ixs : S3276800.Idx → BitVec 32) (fo : S32x16.Idx → F .f32) :
    (iprop((tabLoc d ↦{fullShare} (show Buf (Elt F) (tabLoc d) from tab)) ∗ (ixLoc d ↦{fullShare} (show Buf (Elt F) (ixLoc d) from ixs))
        ∗ outLoc d ↦{fullShare} (show Buf (Elt F) (outLoc d) from fo)) : sProp 𝕄)
      = bigSep Finset.univ fun c : Fin 2 => bigSep Finset.univ fun i : Fin 16 => part d tab ixs fo (worker c i) := by
  rw [← bigSep_workers]
  unfold part
  rw [bigSep_sep', bigSep_sep', Transfers.pointsTo_deal (Finset.univ : Finset (Fin 32)) Finset.univ_nonempty fullShare (ℓ := tabLoc d),
    Transfers.pointsTo_deal (Finset.univ : Finset (Fin 32)) Finset.univ_nonempty fullShare (ℓ := ixLoc d),
    show (outLoc d ↦{fullShare} (show Buf (Elt F) (outLoc d) from fo) : sProp 𝕄)
      = bigSep Finset.univ fun w : Fin 32 => outLoc d ↦[oRowSet w]{fullShare} (show Buf (Elt F) (outLoc d) from fo) from by
        rw [← pointsTo_biUnion Finset.univ (ℓ := outLoc d) oRowSet rows_disjoint, rows_cover]]
  rfl

/-! ### What the handshakes carry -/

variable [FloatOps F]
variable (tab : Dev nD → S1015808.Idx → F .f32) (ixs : Dev nD → S3276800.Idx → BitVec 32) (fo : Dev nD → S32x16.Idx → F .f32)

/-- The one call hands each SparseCore its workers' parts, the result's rows as launched, and gets them back with the partial
    sums in the rows; the sequencer hands each worker its own. -/
def P : (K (F := F)).Pay (nD := nD) (Val := Elt F) (Name := ℕ) (U := UU) where
  st := fun q d c => match q with
    | 0 => bigSep Finset.univ fun i : Fin 16 => part d (tab d) (ixs d) (fo d) (worker (Fin.cast nCore_zero c) i)
  dn := fun q d c => match q with
    | 0 => bigSep Finset.univ fun i : Fin 16 => part d (tab d) (ixs d) (allSums (tab d) (ixs d)) (worker (Fin.cast nCore_zero c) i)
  go := fun q d c i => match q with | 0 => part d (tab d) (ixs d) (fo d) (worker (Fin.cast nCore_zero c) (Fin.cast nSub_zero i))
  td := fun q d c i => match q with
    | 0 => part d (tab d) (ixs d) (allSums (tab d) (ixs d)) (worker (Fin.cast nCore_zero c) (Fin.cast nSub_zero i))
  x := fun _ _ => iprop(emp)

instance P_storable : (P tab ixs fo).IsStorable where
  st q d c := match q with
    | 0 => (inferInstance : BI.Storable (upEmb : UEmb _ 𝕄) (bigSep Finset.univ fun i : Fin 16 => part d (tab d) (ixs d) (fo d) (worker (Fin.cast nCore_zero c) i)))
  dn q d c := match q with
    | 0 => (inferInstance : BI.Storable (upEmb : UEmb _ 𝕄)
        (bigSep Finset.univ fun i : Fin 16 => part d (tab d) (ixs d) (allSums (tab d) (ixs d)) (worker (Fin.cast nCore_zero c) i)))
  go q d c i := match q with
    | 0 => part_storable d (tab d) (ixs d) (fo d) (worker (Fin.cast nCore_zero c) (Fin.cast nSub_zero i))
  td q d c i := match q with
    | 0 => part_storable d (tab d) (ixs d) (allSums (tab d) (ixs d)) (worker (Fin.cast nCore_zero c) (Fin.cast nSub_zero i))

/-- The sequencer's part is its workers' parts, before and after. -/
theorem vecSplit : (K (F := F)).VecSplit' (P tab ixs fo) 0 := by
  intro d c
  have tasks : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun i : Fin 16 => part d (tab d) (ixs d) (fo d) (worker (Fin.cast nCore_zero c) i)) ⊢ |={Set.univ}=> iprop(
      (bigSep Finset.univ fun i : Fin ((K (F := F)).nSub 0) => part d (tab d) (ixs d) (fo d) (worker (Fin.cast nCore_zero c) (Fin.cast nSub_zero i)))
      ∗ ((bigSep Finset.univ fun i : Fin ((K (F := F)).nSub 0) =>
          part d (tab d) (ixs d) (allSums (tab d) (ixs d)) (worker (Fin.cast nCore_zero c) (Fin.cast nSub_zero i)))
        -∗ bigSep Finset.univ fun i : Fin 16 => part d (tab d) (ixs d) (allSums (tab d) (ixs d)) (worker (Fin.cast nCore_zero c) i)))
  rw [tasks fun i => part d (tab d) (ixs d) (fo d) (worker (Fin.cast nCore_zero c) i),
    tasks fun i => part d (tab d) (ixs d) (allSums (tab d) (ixs d)) (worker (Fin.cast nCore_zero c) i)]
  iintro H; imodintro
  isplitl [H]; · iexact H
  iintro H; iexact H

/-! ### The workers' obligation -/

/-- The grid point of a subcore of a SparseCore, as the body table spells it. -/
def pointOf (c : Fin (grid1.bound 0)) (s : Fin (grid1.bound 1)) : grid1.Coords :=
  fun | 0 => c | 1 => s | ⟨_ + 2, h⟩ => absurd h (Nat.not_lt.2 (Nat.le_add_left _ _))

theorem defs₀_worker (c : Fin τ.nSC) (s : Fin τ.nSub) :
    defs₀ (F := F) (.scVector c s) 1 ()
      = SparseCore.onTile hcore1 hsub1 (fun c s => cc1_sc_gather (pointOf c s)
          tV (Memref.isWhole_whole _) xV (Memref.isWhole_whole _) oV (Memref.isWhole_whole _)
          sV (Memref.isWhole_whole _) rV (Memref.isWhole_whole _) aV (Memref.isWhole_whole _)
          cc1_scratch3 cc1_scoped0 cc1_scoped1 cc1_scoped2 cc1_scoped3 cc1_scoped4) ⟨⟩ c s := rfl

/-- Waits recorded at no stage are waits recorded at no stage or at the call's. -/
theorem recorded_mono {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %h, HO⟩
  iexists W'
  isplitr
  · ipureintro
    intro p hp
    rcases h p hp with h | h
    · exact Or.inl h
    · exact Or.inr (Or.inl h)
  · iexact HO

set_option maxRecDepth 16384 in
/-- Every worker's body meets the call's obligation. -/
theorem tileObl (hix : ∀ d, InRange (ixs d)) : (K (F := F)).TileObl (D (F := F)) 𝒱 (P tab ixs fo) v₀ 0 := by
  intro d c i O W hO _ _
  simp only [show (P tab ixs fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_worker]; simp only [SparseCore.onTile, hci, and_self, ↓reduceDIte]
  exact (tile_body d (pointOf ⟨_, hci.1⟩ ⟨_, hci.2⟩) facts (readShare (worker c i)) (tab d) (ixs d) (hix d) (fo d) O W hO).trans
    (wp_mono frame _ _ fun _ => recorded_mono)

end Cert.Proof.KernelIdeal

end
-- ==== Proof.KIBody.lean ====
/-
  The TensorCore body of one block of 256 x 128 entries of the table: from the block of weights, and the two words
  carried in scalar memory (the sum of the earlier blocks' log-probabilities of a zero bit, and the sum of the terms of the
  regulariser), it stores the block of the table, the two words after the block, and after the last block the sum
  of the terms.
-/
module

public import proofs.«01_k».proof.Proof.KISetup
public import Idealize.ShloMosaic.Lib.Pipeline.Value
public import Idealize.ShloMosaic.Lib.Pipeline.TableIdle
public import Idealize.ShloMosaic.Lib.VecWindow
public import Idealize.ShloMosaic.Lib.ViewIndex
public import Idealize.ShloMosaic.Lib.CellWrites

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

/-! ### The values -/

/-- Whether the point is the first, as the body tests it. -/
abbrev firstBit (i : grid0.Coords) : BitVec 1 :=
  Scalar.cmpi .ne (Scalar.extui (Scalar.cmpi .eq (BitVec.ofNat 32 (i 0).val) 0#32) : BitVec 32) 0#32

/-- The float zero. -/
abbrev zeroF : F .f32 := Scalar.ofBits .f32 0x00000000#32

/-- The two carried words a point starts from: zeros at the first point. -/
def startOf (i : grid0.Coords) (s : F .f32 × F .f32) : F .f32 × F .f32 := if firstBit i = 1#1 then (zeroF, zeroF) else s

/-- The block of the table that a point stores, from its block of weights and the carried sum. -/
def tileOut (i : grid0.Coords) (B : Vec F S256x128 .f32) (s : F .f32 × F .f32) : FVec F S256x128 .f32 :=
  k0_pay11 (k0_pay8 i B) (k0_pay9 i B) k0_pay10 s.1

/-- The two carried words after a point. -/
def stepOf (i : grid0.Coords) (B : Vec F S256x128 .f32) (s : F .f32 × F .f32) : F .f32 × F .f32 :=
  (k0_pay13 (k0_pay8 i B) s.1, k0_pay12 (k0_pay3 i) (k0_pay4 i) (k0_pay5 i B) (k0_pay7 i B) (k0_pay8 i B) s.2)

/-- What the point leaves in the second result's buffer: at the last point the sum of the terms, before it what was there. -/
def lastOut (i : grid0.Coords) (s : F .f32 × F .f32) (Z : Vec F S1x1 .f32) : Vec F S1x1 .f32 :=
  if k0_cond2 i = 1#1 then k0_pay1 s.2 else Z

/-! ### The two words of scalar memory -/

/-- The scalar memory that holds the two words. -/
def words (s : F .f32 × F .f32) : (cc0_scratch0 : Ref sig .tc).ty.Contents (Elt F) :=
  fun x : S2.Idx => if (x 0).val = 0 then s.1 else s.2

/-- The rectangles of the two words. -/
abbrev w0 : Rect S2 := Rect.unit (s := S2) ![0] S1.size inb_S2_S1_0
abbrev w1 : Rect S2 := Rect.unit (s := S2) ![1] S1.size inb_S2_S1_1

/-- The index of a word. -/
def wordIx (k : Fin 2) : S2.Idx := fun | 0 => k

/-- An index of the two words is the first or the second. -/
theorem word_cases (x : S2.Idx) : x = wordIx 0 ∨ x = wordIx 1 := by
  have h : ∀ k : Fin 2, k = 0 ∨ k = 1 := by decide
  rcases h (x 0) with h | h
  · left; funext a; fin_cases a; exact h
  · right; funext a; fin_cases a; exact h

/-- Any contents of the scalar memory are two words. -/
theorem words_of (f : S2.Idx → F .f32) : f = words (f (wordIx 0), f (wordIx 1)) := by
  funext x
  rcases word_cases x with rfl | rfl <;> rfl

/-- The first word read, -/
theorem read_w0 (s : F .f32 × F .f32) (x : w0.shape.Idx) :
    ((Memref.whole cc0_scratch0).access w0 : View sig .tc _ _ _).read (Elt F) (words s) x = s.1 := by
  have : (x 0).val = 0 := by have := (x 0).isLt; change (x 0).val < 1 at this; omega
  show (if (0 + 1 * (x 0).val) = 0 then s.1 else s.2) = s.1
  rw [this]; rfl

/-- the second word read, -/
theorem read_w1 (s : F .f32 × F .f32) (x : w1.shape.Idx) :
    ((Memref.whole cc0_scratch0).access w1 : View sig .tc _ _ _).read (Elt F) (words s) x = s.2 := by
  show (if (1 + 1 * (x 0).val) = 0 then s.1 else s.2) = s.2
  rw [if_neg (by omega)]

/-- the first word written, -/
theorem write_w0 (s : F .f32 × F .f32) (v : F .f32) :
    ((Memref.whole cc0_scratch0).access w0 : View sig .tc _ _ _).write (Elt F) (words s) (fun _ => v) Finset.univ = words (v, s.2) := by
  funext x
  have h := View.read_writes_cons_cell (d := ![2]) (Memref.whole cc0_scratch0 : Memref sig .tc .smem S2 .f32).view (words s) (off := ![0]) inb_S2_S1_0 v [] x
  refine h.trans ?_
  unfold words
  by_cases h0 : (x 0).val = 0
  · exact (if_pos h0).trans (if_pos h0).symm
  · exact (if_neg h0).trans ((if_neg (c := (x 0).val = 0) h0).trans (if_neg h0).symm)

/-- the second word written. -/
theorem write_w1 (s : F .f32 × F .f32) (v : F .f32) :
    ((Memref.whole cc0_scratch0).access w1 : View sig .tc _ _ _).write (Elt F) (words s) (fun _ => v) Finset.univ = words (s.1, v) := by
  funext x
  have h := View.read_writes_cons_cell (d := ![2]) (Memref.whole cc0_scratch0 : Memref sig .tc .smem S2 .f32).view (words s) (off := ![1]) inb_S2_S1_1 v [] x
  refine h.trans ?_
  unfold words
  have := (x 0).isLt
  change (x 0).val < 2 at this
  by_cases h0 : (x 0).val = 0
  · exact (if_neg (show ¬ (x 0).val = 1 by omega)).trans ((if_pos (c := (x 0).val = 0) h0).trans (if_pos h0).symm)
  · exact (if_pos (show (x 0).val = 1 by omega)).trans (if_neg h0).symm

/-! ### The body -/

section Body

variable (c : Dev nD) (i : grid0.Coords)
variable (M1 : Memref sig .tc .vmem S256x128 .f32) (h1 : M1.IsWhole) (M2 : Memref sig .tc .vmem S256x128 .f32) (h2 : M2.IsWhole)
variable (M3 : Memref sig .tc .vmem S1x1 .f32) (h3 : M3.IsWhole)

omit [FloatOps F] in
/-- A rectangle of a memref is among its elements. -/
theorem access_sub {sp : Space} {sh : Shape} {e : EltTy} (M : Memref sig .tc sp sh e) (r : Rect sh) :
    (M.access r : View sig .tc _ _ _).setOn Finset.univ ⊆ M.view.set := by
  show (M.view.slice r).setOn Finset.univ ⊆ M.view.set
  rw [View.setOn_univ, View.set_slice]
  exact Finset.map_subset_map.mpr (Finset.subset_univ _)

/-- A store of a view's own sizes leaves it reading what was stored. -/
theorem owns_store {sh : Shape} {e : EltTy} (M : Memref sig .tc .vmem sh e) {off : Fin sh.rank → ℕ}
    (inb : ∀ a, off a + sh.size a ≤ sh.size a) (X w : sh.Idx → Elt F e) :
    ((M.view.loc (c : Thread nD τ) ↦[M.view.set]{fullShare}
        (M.access (Rect.unit off sh.size inb) : View sig .tc _ _ _).write (Elt F) (M.view.rep X) w Finset.univ) : sProp 𝕄)
      ⊢ owns (c : Thread nD τ) M fullShare w := by
  unfold owns
  iintro H
  iexists _
  isplitr
  rotate_left
  · iexact H
  · ipureintro
    exact View.read_writes_full M.view (M.view.rep X) inb w []

/-- The first part: at the first point both words are cleared; the block is loaded. -/
theorem part1_spec (B : Vec F S256x128 .f32) (s : F .f32 × F .f32)
    (Q : (Σ' (arg0 : BitVec 32) (v14 : IVec S256x128 1) (v16 : IVec S256x128 32) (v21 : FVec F S256x128 .f32) (v29 : FVec F S256x128 .f32) (v36 : FVec F S256x128 .f32) (v38 : FVec F S256x128 .f32), IVec S128x128 32) → sProp 𝕄) :
    iprop((owns (c : Thread nD τ) M1 fullShare B ∗ ((c : Thread nD τ).loc cc0_scratch0 ↦{fullShare} words s))
      ∗ ((owns (c : Thread nD τ) M1 fullShare B ∗ ((c : Thread nD τ).loc cc0_scratch0 ↦{fullShare} words (startOf i s)))
        -∗ Q ⟨BitVec.ofNat 32 (i 0).val, k0_pay3 i, k0_pay4 i, k0_pay5 i B, k0_pay7 i B, k0_pay8 i B, k0_pay9 i B, k0_pay10⟩))
      ⊢ wp frame (wpE (defs₀ (F := F)) 𝒱₀ (c : Thread nD τ) none) Set.univ
          (k0_part1 i M1 h1 M2 h2 M3 h3 (Memref.whole cc0_scratch0) (Memref.isWhole_whole _)) Q := by
  simp only [k0_part1_eq_skeleton]; unfold k0_part1_skel
  by_cases hf : firstBit i = 1#1
  · simp only [hf, ↓reduceDIte, smemLoad, smemLoadElt, Prog.lift, Prog.bind_op, Prog.bind_ret, Prog.pure_eq_ret, Prog.bind_assoc]
    iintro ⟨⟨H1, Hs⟩, Hk⟩
    ihave H1 := (rep_of_owns _ _ _ _) $$ H1
    iapply (wp_load_rect 𝒱₀ (c : Thread nD τ) none Set.univ (m := Memref.whole cc0_scratch0) (r := w0) (Finset.subset_univ _)) $$ Hs; iintro Hs
    iapply (wp_store 𝒱₀ (c : Thread nD τ) none Set.univ (m := Memref.whole cc0_scratch0) (r := w0) (Mk := Finset.univ) (Finset.subset_univ _)) $$ Hs; iintro Hs
    iapply (wp_load_rect 𝒱₀ (c : Thread nD τ) none Set.univ (m := Memref.whole cc0_scratch0) (r := w1) (Finset.subset_univ _)) $$ Hs; iintro Hs
    iapply (wp_store 𝒱₀ (c : Thread nD τ) none Set.univ (m := Memref.whole cc0_scratch0) (r := w1) (Mk := Finset.univ) (Finset.subset_univ _)) $$ Hs; iintro Hs
    iapply (wp_load 𝒱₀ (c : Thread nD τ) none Set.univ (m := M1) (S := M1.view.set) (Finset.map_subset_map.mpr (Finset.subset_univ _))) $$ H1; iintro H1
    rw [View.readAt_rep_full]
    simp only [wp_ret]; imodintro
    iapply Hk
    isplitl [H1]
    · iapply (owns_of_rep _ _ _ _); iexact H1
    · rw [show startOf i s = (zeroF, zeroF) from if_pos hf, ← write_w1 (zeroF, s.2) zeroF, ← write_w0 s zeroF]; iexact Hs
  · simp only [hf, ↓reduceDIte, smemLoad, smemLoadElt, Prog.lift, Prog.bind_op, Prog.bind_ret, Prog.pure_eq_ret, Prog.bind_assoc]
    iintro ⟨⟨H1, Hs⟩, Hk⟩
    ihave H1 := (rep_of_owns _ _ _ _) $$ H1
    iapply (wp_load 𝒱₀ (c : Thread nD τ) none Set.univ (m := M1) (S := M1.view.set) (Finset.map_subset_map.mpr (Finset.subset_univ _))) $$ H1; iintro H1
    rw [View.readAt_rep_full]
    simp only [wp_ret]; imodintro
    iapply Hk
    isplitl [H1]
    · iapply (owns_of_rep _ _ _ _); iexact H1
    · rw [show startOf i s = s from if_neg hf]; iexact Hs

/-- The second part: the table's block is stored and the second word moved on; the first word's next value comes back. -/
theorem part2_spec (Y : Vec F S256x128 .f32) (s : F .f32 × F .f32) (v14 : IVec S256x128 1) (v16 : IVec S256x128 32)
    (v21 v29 v36 v38 : FVec F S256x128 .f32) (v42 : IVec S128x128 32) (Q : F .f32 → sProp 𝕄) :
    iprop((owns (c : Thread nD τ) M2 fullShare Y ∗ ((c : Thread nD τ).loc cc0_scratch0 ↦{fullShare} words s))
      ∗ ((owns (c : Thread nD τ) M2 fullShare (k0_pay11 v36 v38 v42 s.1)
          ∗ ((c : Thread nD τ).loc cc0_scratch0 ↦{fullShare} words (s.1, k0_pay12 v14 v16 v21 v29 v36 s.2)))
        -∗ Q (k0_pay13 v36 s.1)))
      ⊢ wp frame (wpE (defs₀ (F := F)) 𝒱₀ (c : Thread nD τ) none) Set.univ
          (k0_part2 i M1 h1 M2 h2 M3 h3 (Memref.whole cc0_scratch0) (Memref.isWhole_whole _) v14 v16 v21 v29 v36 v38 v42) Q := by
  simp only [k0_part2_eq_skeleton]; unfold k0_part2_skel
  simp only [smemLoad, smemLoadElt, Prog.lift, Prog.bind_op, Prog.bind_ret, Prog.pure_eq_ret, Prog.bind_assoc]
  iintro ⟨⟨H2, Hs⟩, Hk⟩
  ihave H2 := (rep_of_owns _ _ _ _) $$ H2
  iapply (wp_load_rect 𝒱₀ (c : Thread nD τ) none Set.univ (m := Memref.whole cc0_scratch0) (r := w0) (Finset.subset_univ _)) $$ Hs; iintro Hs
  iapply (wp_load 𝒱₀ (c : Thread nD τ) none Set.univ (m := M2) (S := M2.view.set) (Finset.map_subset_map.mpr (Finset.subset_univ _))) $$ H2; iintro H2
  iapply (wp_store 𝒱₀ (c : Thread nD τ) none Set.univ (m := M2) (S := M2.view.set) (r := Rect.unit (s := S256x128) ![0, 0] S256x128.size inb_S256x128_S256x128_0_0) (Mk := Finset.univ)
    (access_sub _ _)) $$ H2; iintro H2
  iapply (wp_load_rect 𝒱₀ (c : Thread nD τ) none Set.univ (m := Memref.whole cc0_scratch0) (r := w1) (Finset.subset_univ _)) $$ Hs; iintro Hs
  iapply (wp_load_rect 𝒱₀ (c : Thread nD τ) none Set.univ (m := Memref.whole cc0_scratch0) (r := w1) (Finset.subset_univ _)) $$ Hs; iintro Hs
  iapply (wp_store 𝒱₀ (c : Thread nD τ) none Set.univ (m := Memref.whole cc0_scratch0) (r := w1) (Mk := Finset.univ) (Finset.subset_univ _)) $$ Hs; iintro Hs
  iapply (wp_load_rect 𝒱₀ (c : Thread nD τ) none Set.univ (m := Memref.whole cc0_scratch0) (r := w0) (Finset.subset_univ _)) $$ Hs; iintro Hs
  simp only [wp_ret]; imodintro
  rw [read_w0, read_w1, ← write_w1 s]
  iapply Hk
  isplitl [H2]
  · iapply (owns_store c M2 _ _ _); iexact H2
  · iexact Hs

/-- The body from the block of weights and the two words: the table's block, the words after it, and the last sum. -/
theorem dense_body (B Y : Vec F S256x128 .f32) (Z : Vec F S1x1 .f32) (s : F .f32 × F .f32) (Q : PUnit → sProp 𝕄) :
    iprop((owns (c : Thread nD τ) M1 fullShare B ∗ owns (c : Thread nD τ) M2 fullShare Y ∗ owns (c : Thread nD τ) M3 fullShare Z
        ∗ ((c : Thread nD τ).loc cc0_scratch0 ↦{fullShare} words s))
      ∗ ((owns (c : Thread nD τ) M1 fullShare B ∗ owns (c : Thread nD τ) M2 fullShare (tileOut i B (startOf i s))
          ∗ owns (c : Thread nD τ) M3 fullShare (lastOut i (stepOf i B (startOf i s)) Z)
          ∗ ((c : Thread nD τ).loc cc0_scratch0 ↦{fullShare} words (stepOf i B (startOf i s)))) -∗ Q ⟨⟩))
      ⊢ wp frame (wpE (defs₀ (F := F)) 𝒱₀ (c : Thread nD τ) none) Set.univ
          (cc0__tc_body i M1 h1 M2 h2 M3 h3 (Memref.whole cc0_scratch0) (Memref.isWhole_whole _)) Q := by
  simp only [cc0__tc_body_eq_skeleton]; unfold cc0__tc_body_skel
  rw [wp_bind]
  iintro ⟨⟨H1, H2, H3, Hs⟩, Hk⟩
  iapply (part1_spec c i M1 h1 M2 h2 M3 h3 B s _)
  isplitl [H1 Hs]
  · isplitl [H1] <;> iassumption
  iintro ⟨H1, Hs⟩
  dsimp only
  rw [wp_bind]
  iapply (part2_spec c i M1 h1 M2 h2 M3 h3 Y _ _ _ _ _ _ _ _ _)
  isplitl [H2 Hs]
  · isplitl [H2] <;> iassumption
  iintro ⟨H2, Hs⟩
  simp only [smemLoad, smemLoadElt, Prog.lift, Prog.bind_op, Prog.bind_ret, Prog.pure_eq_ret, Prog.bind_assoc]
  iapply (wp_store 𝒱₀ (c : Thread nD τ) none Set.univ (m := Memref.whole cc0_scratch0) (r := w0) (Mk := Finset.univ) (Finset.subset_univ _)) $$ Hs; iintro Hs
  ihave Hs := (Entails.of_eq (congrArg (fun f : Buf (Elt F) ((c : Thread nD τ).loc cc0_scratch0) =>
    ((c : Thread nD τ).loc cc0_scratch0 ↦{fullShare} f : sProp 𝕄)) (write_w0 _ _))) $$ Hs
  by_cases hl : k0_cond2 i = 1#1
  · simp only [hl, ↓reduceDIte]
    ihave H3 := (rep_of_owns _ _ _ _) $$ H3
    iapply (wp_load_rect 𝒱₀ (c : Thread nD τ) none Set.univ (m := Memref.whole cc0_scratch0) (r := w1) (Finset.subset_univ _)) $$ Hs; iintro Hs
    iapply (wp_load 𝒱₀ (c : Thread nD τ) none Set.univ (m := M3) (S := M3.view.set) (Finset.map_subset_map.mpr (Finset.subset_univ _))) $$ H3; iintro H3
    iapply (wp_store 𝒱₀ (c : Thread nD τ) none Set.univ (m := M3) (S := M3.view.set) (r := Rect.unit (s := S1x1) ![0, 0] S1x1.size inb_S1x1_S1x1_0_0) (Mk := Finset.univ)
      (access_sub _ _)) $$ H3; iintro H3
    simp only [wp_ret]; imodintro
    rw [read_w1]
    iapply Hk
    isplitl [H1]; · iexact H1
    isplitl [H2]; · iexact H2
    isplitl [H3]
    · rw [show lastOut i (stepOf i B (startOf i s)) Z = k0_pay1 (stepOf i B (startOf i s)).2 from if_pos hl]
      iapply (owns_store c M3 _ _ _); iexact H3
    · iexact Hs
  · simp only [hl, ↓reduceDIte]
    simp only [wp_ret]; imodintro
    iapply Hk
    isplitl [H1]; · iexact H1
    isplitl [H2]; · iexact H2
    isplitl [H3]
    · rw [show lastOut i (stepOf i B (startOf i s)) Z = Z from if_neg hl]
      iexact H3
    · iexact Hs

end Body

end Cert.Proof.KernelIdeal

end
-- ==== Proof.KIRegion.lean ====
/-
  The TensorCore pipeline over the 31 blocks of the table: what the two words of scalar memory hold before each
  point, what the two results hold at the end, and the region entered from the host's buffers and left with
  the results written.
-/
module

public import proofs.«01_k».proof.Proof.KIBody
public import Idealize.ShloMosaic.Lib.Pipeline.ValueKit
public import Idealize.ShloMosaic.Lib.Pipeline.RegionsLoop
public import Idealize.ShloMosaic.Lib.Pipeline.FrameSuffix

@[expose] public section

noncomputable section

namespace Cert.Proof.KernelIdeal

open Cert.KernelIdeal Cert.KernelIdeal.Gen

open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MM F

/-! ### The values -/

/-- The grid's coordinates of point `n`. -/
def coordsAt (n : ℕ) : grid0.Coords := grid0.coords ⟨n % 31, lt_of_lt_of_eq (Nat.mod_lt n (by decide)) N_0.symm⟩

theorem coordsAt_val (t : Fin grid0.N) : coordsAt t.val = grid0.coords t := by
  unfold coordsAt
  congr 1
  exact Fin.ext (Nat.mod_eq_of_lt (lt_of_lt_of_eq t.isLt N_0))

/-- Block `n` of the weights, 256 rows of 128. -/
def tileOf (W : S7936x128.Idx → F .f32) (n : ℕ) : Vec F S256x128 .f32 := fun x =>
  W fun
    | 0 => ⟨256 * (n % 31) + (x 0).val, by
        have := Nat.mod_lt n (show 0 < 31 by decide); have h := (x 0).isLt; change (x 0).val < 256 at h
        change _ < 7936; omega⟩
    | 1 => ⟨(x 1).val, (x 1).isLt⟩

/-- The two carried words after the first `n` blocks. -/
def carry (W : S7936x128.Idx → F .f32) : ℕ → F .f32 × F .f32
  | 0 => (zeroF, zeroF)
  | n + 1 => stepOf (coordsAt n) (tileOf W n) (startOf (coordsAt n) (carry W n))

/-- Block `n` of the table. -/
def tableTile (W : S7936x128.Idx → F .f32) (n : ℕ) : Vec F S256x128 .f32 :=
  tileOut (coordsAt n) (tileOf W n) (startOf (coordsAt n) (carry W n))

/-- The table, 7936 rows of 128. -/
def tableRows (W : S7936x128.Idx → F .f32) : S7936x128.Idx → F .f32 := fun y =>
  tableTile W ((y 0).val / 256) fun
    | 0 => ⟨(y 0).val % 256, Nat.mod_lt _ (by decide)⟩
    | 1 => ⟨(y 1).val, (y 1).isLt⟩

/-- The sum of the regulariser's terms, as the last point stores it. -/
def termsRow (W : S7936x128.Idx → F .f32) : Vec F S1x1 .f32 := k0_pay1 (carry W 31).2

/-! ### The pipeline's proof data -/

variable (VV : Dev nD → Valuation τ sig (Elt F))

/-- The weights' rows on a device. -/
abbrev rowsOf (c : Dev nD) : S7936x128.Idx → F .f32 := VV c (Proc.devRef .tc main_v1)

/-- The scalar memory before point `n`: the carried words, at the first point anything. -/
def carried (c : Dev nD) (n : ℕ) : sProp 𝕄 :=
  iprop(∃ s, ⌜n ≠ 0 → s = carry (rowsOf VV c) n⌝ ∗ ((c : Thread nD τ).loc cc0_scratch0 ↦{fullShare} words s))

/-- The pairs that the TensorCore's waits may have recorded before the SparseCore's call. -/
abbrev below (c : Dev nD) : Set (SemLoc sig × HIx 1) := {p | (K (F := F)).lev ((c : Thread nD τ), p.1) p.2 ≤ 0}

/-- The pipeline's proof data. -/
def dats (c : Dev nD) : Dat τ (Elt F) (HIx 1) ℕ UU ℕ cfg0 c where
  A w := VV c (Proc.devRef .tc (Pipeline.arrRef spec0 w))
  after w t := match w with
    | ⟨0, _⟩ => tileOf (rowsOf VV c) t.val
    | ⟨1, _⟩ => tableTile (rowsOf VV c) t.val
    | ⟨2, _⟩ => k0_pay1 (carry (rowsOf VV c) (t.val + 1)).2
    | ⟨_ + 3, h⟩ => absurd h (Nat.not_lt.2 (Nat.le_add_left _ _))
  Φ t := carried VV c t.val
  q _ := fullShare
  owed _ := (K (F := F)).Otc c 0
  recorded _ := below (F := F) c

theorem A_eq (c : Dev nD) (w : Fin cfg0.W) : (dats VV c).A w = VV c (Proc.devRef .tc (Pipeline.arrRef spec0 w)) := by
  dsimp only [dats]

/-- The grid's one coordinate at a point is the point's number, and the blocks that the two array windows are at. -/
theorem coord_val (t : Fin grid0.N) : ((grid0.coords t) 0).val = t.val := by
  have h : ∀ t : Fin grid0.N, ((grid0.coords t) 0).val = t.val := by decide +kernel
  exact h t
theorem block_in (t : Fin grid0.N) : win0_0.index t 0 = t.val ∧ win0_0.index t 1 = 0 := by
  have h : ∀ t : Fin grid0.N, win0_0.index t 0 = t.val ∧ win0_0.index t 1 = 0 := by decide +kernel
  exact h t
theorem block_out (t : Fin grid0.N) : win0_1.index t 0 = t.val ∧ win0_1.index t 1 = 0 := by
  have h : ∀ t : Fin grid0.N, win0_1.index t 0 = t.val ∧ win0_1.index t 1 = 0 := by decide +kernel
  exact h t

/-- The fetched window holds its block of the weights when the body runs. -/
theorem before_in (c : Dev nD) (t : Fin cfg0.N) (d) : (dats VV c).before 0 t d = tileOf (rowsOf VV c) t.val := by
  have h31 : t.val < 31 := lt_of_lt_of_eq t.isLt N_0
  obtain ⟨e0, e1⟩ := block_in t
  unfold Dat.before; rw [if_pos (fetch0_0 t)]
  funext y
  show VV c (Proc.devRef .tc main_v1) (((cfg0.win 0).blk t).view.emb y) = _
  unfold tileOf
  congr 1
  funext a
  apply Fin.ext
  fin_cases a
  · blk_simp [e0]
    show t.val * 256 + (y 0).val = 256 * (t.val % 31) + (y 0).val
    rw [Nat.mod_eq_of_lt h31, Nat.mul_comm]
  · blk_simp [e1]
    rfl

/-- Whether a point is the first is what the body tests. -/
theorem firstBit_at (t : Fin grid0.N) (h : firstBit (grid0.coords t) ≠ 1#1) : t.val ≠ 0 := by
  intro h0
  apply h
  show Scalar.cmpi .ne (Scalar.extui (Scalar.cmpi .eq (BitVec.ofNat 32 ((grid0.coords t) 0).val) 0#32) : BitVec 32) 0#32 = 1#1
  rw [coord_val, h0]
  decide

/-- The words carried into a point may be anything at the first point. -/
theorem startOf_carried (W : S7936x128.Idx → F .f32) (t : Fin grid0.N) (s : F .f32 × F .f32) (h : t.val ≠ 0 → s = carry W t.val) :
    startOf (grid0.coords t) s = startOf (coordsAt t.val) (carry W t.val) := by
  rw [coordsAt_val]
  unfold startOf
  split
  · rfl
  · next hb => rw [h (firstBit_at t hb)]

/-- A point that is not the last writes nothing to the second result, and does not flush it. -/
theorem flush_last (t : Fin cfg0.N) (h : k0_cond2 (grid0.coords t) ≠ 1#1) : (cfg0.win 2).flush t = false := by
  rw [Bool.eq_false_iff]
  intro hf
  have h30 : t.val % 31 = 30 := (flush0_2 t).mp hf
  have h31 : t.val < 31 := lt_of_lt_of_eq t.isLt N_0
  apply h
  have : ∀ n : ℕ, n = 30 → Scalar.cmpi .ne (Scalar.extui (Scalar.cmpi .eq (BitVec.ofNat 32 n) 30#32) : BitVec 32) 0#32 = 1#1 := by
    rintro n rfl; decide
  exact this _ ((coord_val t).trans (by omega))

/-- The body at every point keeps the pipeline's invariant and leaves the buffers as the proof data say. -/
theorem body_obligation (c : Dev nD) : Pipeline.BodyObligation (dats VV c) (defs₀ (F := F)) 𝒱₀ none Set.univ := by
  intro t
  show iprop(carried VV c t.val ∗ _ ∗ _) ⊢ wp _ _ _ (bodyAt0 t) fun _ => iprop(carried VV c (t.val + 1) ∗ _ ∗ _)
  rw [bigSep_W0, bigSep_W0]
  simp only [before_in]
  unfold carried
  iintro ⟨⟨%s, %hs, Hw⟩, HO, ⟨%d0, H0⟩, ⟨%d1, H1⟩, ⟨%d2, H2⟩⟩
  iapply (dense_body c (grid0.coords t) _ _ _ _ _ _ (tileOf (rowsOf VV c) t.val) ((dats VV c).before 1 t d1) ((dats VV c).before 2 t d2) s _)
  isplitl [Hw H0 H1 H2]
  · isplitl [H0]; · iexact H0
    isplitl [H1]; · iexact H1
    isplitl [H2]; · iexact H2
    iexact Hw
  iintro ⟨H0, H1, H2, Hw⟩
  have hst := startOf_carried (rowsOf VV c) t s hs
  isplitl [Hw]
  · iexists _
    isplitr
    · ipureintro
      exact fun _ => by rw [show carry (rowsOf VV c) (t.val + 1) = stepOf (coordsAt t.val) (tileOf (rowsOf VV c) t.val) (startOf (coordsAt t.val) (carry (rowsOf VV c) t.val)) from rfl, ← hst, coordsAt_val]
    · iexact Hw
  isplitl [HO]; · iexact HO
  isplitl [H0]; · iexact H0
  isplitl [H1]
  · iapply (Entails.of_eq (congrArg (fun f => owns (c : Thread nD τ) ((cfg0.win 1).stage (cfg0.slots t 1)) fullShare f)
      (show tileOut (grid0.coords t) (tileOf (rowsOf VV c) t.val) (startOf (grid0.coords t) s) = tableTile (rowsOf VV c) t.val from by
        unfold tableTile; rw [hst, coordsAt_val])))
    iexact H1
  by_cases hc : k0_cond2 (grid0.coords t) = 1#1
  · have hi : idle0 2 (grid0.coords t) = false := by
      show (!(k0_cond2 (grid0.coords t) == 1#1)) = false
      rw [hc]; rfl
    rw [hi]
    iapply (Entails.of_eq (congrArg (fun f => owns (c : Thread nD τ) ((cfg0.win 2).stage (cfg0.slots t 2)) fullShare f)
      (show lastOut (grid0.coords t) (stepOf (grid0.coords t) (tileOf (rowsOf VV c) t.val) (startOf (grid0.coords t) s)) ((dats VV c).before 2 t d2)
          = k0_pay1 (carry (rowsOf VV c) (t.val + 1)).2 from by
        unfold lastOut; rw [if_pos hc, hst, ← coordsAt_val]; rfl)))
    iexact H2
  · have hi : idle0 2 (grid0.coords t) = true := by
      show (!(k0_cond2 (grid0.coords t) == 1#1)) = true
      rw [beq_eq_false_iff_ne.mpr hc]; rfl
    rw [hi, show (win0 2).flush t = false from flush_last t hc]
    iexists d2
    iapply (Entails.of_eq (congrArg (fun f => owns (c : Thread nD τ) ((cfg0.win 2).stage (cfg0.slots t 2)) fullShare f)
      (show lastOut (grid0.coords t) (stepOf (grid0.coords t) (tileOf (rowsOf VV c) t.val) (startOf (grid0.coords t) s)) ((dats VV c).before 2 t d2)
          = (dats VV c).before 2 t d2 from by
        unfold lastOut; rw [if_neg hc])))
    iexact H2

/-! ### The results at the region's end -/

/-- The first result is the table, -/
theorem arrAt_table (c : Dev nD) : (dats VV c).arrAt 1 cfg0.N = tableRows (rowsOf VV c) := by
  refine (dats VV c).arrAt_eq_of_covers 1 _ (by decide +kernel) fun t hf y => ?_
  have h31 : t.val < 31 := lt_of_lt_of_eq t.isLt N_0
  obtain ⟨e0, e1⟩ := block_out t
  blk_simp
  have h0 : (((win0_1.blk t).view.emb y 0 : Fin _) : ℕ) = t.val * 256 + (y 0).val := by blk_simp [e0]
  have h1 : (((win0_1.blk t).view.emb y 1 : Fin _) : ℕ) = (y 1).val := by blk_simp [e1]
  have hy : (y 0).val < 256 := (y 0).isLt
  show tableTile (rowsOf VV c) t.val y = tableTile (rowsOf VV c) ((((win0_1.blk t).view.emb y 0 : Fin _) : ℕ) / 256) _
  have hn : (((win0_1.blk t).view.emb y 0 : Fin _) : ℕ) / 256 = t.val := by rw [h0]; omega
  rw [hn]
  congr 1
  funext a
  apply Fin.ext
  fin_cases a
  · show (y 0).val = (((win0_1.blk t).view.emb y 0 : Fin _) : ℕ) % 256
    rw [h0]; omega
  · exact h1.symm

/-- the second the sum of the regulariser's terms. -/
theorem arrAt_terms (c : Dev nD) : (dats VV c).arrAt 2 cfg0.N = termsRow (rowsOf VV c) := by
  refine (dats VV c).arrAt_eq_of_after_last 2 ⟨30, lt_of_lt_of_eq (by decide) N_0.symm⟩ (by decide +kernel) _ fun j => ?_
  exact (cast_eq _ _).trans rfl

/-! ### The region among the host's buffers -/

/-- The TensorCore's unscoped buffers, what the host's operations run over. -/
def hostRefs : Finset (DevRef τ sig) := (StableHlo.tcRefs τ sig).filter fun b => ¬ b.isScoped

omit [FloatOps F] in
/-- The TensorCore's unscoped buffers at a valuation are those references held at it. -/
theorem unscoped_held (c : Dev nD) (V : Valuation τ sig (Elt F)) :
    (unscopedBufs c (fun b => V b) : sProp 𝕄) = StableHlo.held (c : Thread nD τ) hostRefs V := by
  unfold unscopedBufs StableHlo.held hostRefs StableHlo.tcRefs
  rw [Finset.filter_map, BI.bigSep_map]
  rfl

/-- The buffers after the region: the two results written. -/
def afterTc (c : Dev nD) : Valuation τ sig (Elt F) := withArrays spec0 c (VV c) fun w => (dats VV c).arrAt w cfg0.N

theorem afterTc_table (c : Dev nD) : afterTc VV c (Proc.devRef .tc main_v2_0) = tableRows (rowsOf VV c) :=
  (withArrays_arr spec0 winFacts0.arr_inj c (VV c) _ 1).trans (arrAt_table VV c)
theorem afterTc_terms (c : Dev nD) : afterTc VV c (Proc.devRef .tc main_v2_1) = termsRow (rowsOf VV c) :=
  (withArrays_arr spec0 winFacts0.arr_inj c (VV c) _ 2).trans (arrAt_terms VV c)
theorem afterTc_other (c : Dev nD) (b : Ref sig .tc) (hb : ∀ w, Pipeline.arrRef spec0 w ≠ b) :
    afterTc VV c (Proc.devRef .tc b) = VV c (Proc.devRef .tc b) :=
  withArrays_of_ne spec0 c (VV c) _ b hb

/-- The only admissible choice of prefetched tables: there is none. -/
abbrev adm : (p : Fin 1) → (pcfgs (F := F) p).Adm := fun p => (cfgs p).toPCfg_adm

/-- The proof data per pipeline of the program. -/
def pdats : (p : Fin 1) → (c : Dev nD) → Dat τ (Elt F) (HIx 1) ℕ UU ℕ (Pipeline.pin (pcfgs (F := F)) adm p) c :=
  fun | 0 => fun c => dats VV c | ⟨_ + 1, h⟩ => absurd h (Nat.not_lt.2 (Nat.le_add_left _ _))

/-- Every window's array is held whole. -/
theorem share_full (c : Dev nD) (w : Fin cfg0.W) : (dats VV c).share w = fullShare := by
  unfold Dat.share
  split <;> rfl

/-- What the TensorCore owes before the SparseCore's call, its waits' pairs recorded low. -/
def owing (c : Dev nD) : sProp 𝕄 :=
  iprop(∃ W, ⌜(K (F := F)).WBelow (SparseCore.T c) W 0⌝ ∗ owes (SparseCore.T c) ((K (F := F)).Otc c 0) W)

theorem owesAt_of_owing (c : Dev nD) : owing (F := F) c ⊢ (dats VV c).owesAt none 0 := by
  unfold owing Dat.owesAt Pipeline.owesWithin
  iintro ⟨%W, %hW, HO⟩
  iexists W
  isplitr
  · ipureintro; exact fun p hp => Or.inl (hW p hp)
  · iexact HO

theorem owing_of_owesAt (c : Dev nD) : (dats VV c).owesAt none (Fin.last cfg0.N) ⊢ owing (F := F) c := by
  unfold owing Dat.owesAt Pipeline.owesWithin
  iintro ⟨%W, %hW, HO⟩
  iexists W
  isplitr
  · ipureintro
    intro p hp
    rcases hW hp with h | ⟨w, s, h⟩
    · exact h
    · rw [h]; exact le_rfl
  · iexact HO

/-- The region: entered from the host's buffers at the valuations `VV`, left with the two results written. -/
def region : Pipeline.RegionSeg (pcfgs (F := F)) adm (pdats VV) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation VV c).loose
  hwaits c := Pipeline.cellsWaits_intro _ (pdats VV) none 0 c fun w s t =>
    (K (F := F)).mayWait_none _ (fun g => by
      by_contra h
      have := (K (F := F)).lev_of_Otc_pos (Nat.pos_of_ne_zero h)
      rw [(K (F := F)).lev_none] at this
      omega)
  pre c := iprop(StableHlo.held (c : Thread nD τ) hostRefs (VV c) ∗ owing c)
  post c := iprop(StableHlo.held (c : Thread nD τ) hostRefs (afterTc VV c) ∗ owing c)
  X _ := iprop(emp)
  Y _ := iprop(emp)
  Z c := Pipeline.unscopedRest spec0 c fun b => VV c b
  hentry c := by
    have hsplit := Pipeline.arrays_of_unscopedBufs (pcfgs (F := F)) adm (pdats VV) (p := 0) winFacts0 arr_whole0 c
      (share_full VV c) (fun b => VV c b) (fun w => A_eq VV c w)
    rw [Pipeline.ownSems0_none, ← unscoped_held]
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]; · iapply (owesAt_of_owing VV c); iexact HO
    isplitr; · iempintro
    iexact Hrest
  hin c := by
    show _ ⊢ carried VV c 0
    rw [show (Pipeline.scopedRest (Pipeline.pin (pcfgs (F := F)) adm 0).spec c : sProp 𝕄) = _ from scopedRest0_eq c]
    unfold carried
    iintro ⟨-, -, %f, Hw⟩
    iexists (f (wordIx 0), f (wordIx 1))
    isplitr; · ipureintro; exact fun h => absurd rfl h
    iapply (Entails.of_eq (congrArg (fun g => (((c : Thread nD τ).loc cc0_scratch0 ↦{fullShare} g : sProp 𝕄))) (words_of f)))
    iexact Hw
  hout c := by
    show carried VV c _ ⊢ _
    rw [Pipeline.ownSems0_none, show (Pipeline.scopedRest (Pipeline.pin (pcfgs (F := F)) adm 0).spec c : sProp 𝕄) = _ from scopedRest0_eq c]
    unfold carried
    iintro ⟨%s, -, Hw⟩
    isplitr; · iempintro
    isplitr; · iempintro
    iexists _
    iexact Hw
  hexit c := by
    have hjoin := Pipeline.unscopedBufs_of_arrays (pcfgs (F := F)) adm (p := 0) winFacts0 arr_whole0 c (pdats VV)
      (share_full VV c) (fun b => VV c b) (fun b => afterTc VV c b)
      (fun w => (dats VV c).arrAt w cfg0.N)
      (fun w => (withArrays_arr spec0 winFacts0.arr_inj c (VV c) (fun w => (dats VV c).arrAt w cfg0.N) w).symm)
      (fun b hb => afterTc_other VV c b fun w h => hb (h ▸ Finset.mem_image.mpr ⟨w, Finset.mem_univ _, rfl⟩))
    rw [← unscoped_held]
    iintro ⟨Ha, HO, -, Hrest⟩
    imodintro
    isplitl [Ha Hrest]
    · iapply hjoin
      isplitl [Ha]; · iexact Ha
      iexact Hrest
    iapply (owing_of_owesAt VV c); iexact HO

end Cert.Proof.KernelIdeal

end
-- ==== Proof.KILaunch.lean ====
/-
  The whole program on the device: the host's operations, the dense kernel's region and the SparseCore's call in order,
  from the launch memory to the result, whose value is named as a function of the two arguments.
-/
module

public import proofs.«01_k».proof.Proof.KIShares
public import proofs.«01_k».proof.Proof.KIRegion

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (nullary unary binary)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ### The host's operations -/

/-- Before the dense kernel: the weights padded with zeros and laid out in rows. -/
abbrev opsA : List (HloOp τ sig (Elt F)) :=
  [ nullary main_c (constantI S_ 32 0#32),
    unary main_c main_call0_v0 (sitofp .f32 : (⟨S_, .i32⟩ : BufTy).Contents (Elt F) → (⟨S_, .f32⟩ : BufTy).Contents (Elt F)),
    binary main_arg1 main_call0_v0 main_v0 ((fun x v => pad S1015808 ![0] ![15809] ![0] x v pads_S999999_S1015808_0158090 h_S_) :
      (⟨S999999, .f32⟩ : BufTy).Contents (Elt F) → (⟨S_, .f32⟩ : BufTy).Contents (Elt F) → (⟨S1015808, .f32⟩ : BufTy).Contents (Elt F)),
    StableHlo.reshape main_v0 main_v1 (rfl : (.f32 : EltTy) = .f32) shapeCasts_S1015808_S7936x128 ]
/-- Between the kernels: the table and the indices laid out in a line. -/
abbrev opsB : List (HloOp τ sig (Elt F)) :=
  [ StableHlo.reshape main_v2_0 main_v3 (rfl : (.f32 : EltTy) = .f32) shapeCasts_S7936x128_S1015808,
    StableHlo.reshape main_arg0 main_v4 (rfl : (.i32 : EltTy) = .i32) shapeCasts_S16384x200_S3276800 ]
/-- After the SparseCore: its partial sums added up, and the dense kernel's sum added to them. -/
abbrev opsC : List (HloOp τ sig (Elt F)) :=
  [ nullary main_cst (constant S_ .f32 0x00000000#32),
    binary main_v5 main_cst main_v6 ((fun x v => Host.reduceAdd x v reducesTo_S32x16_S_d0_1 h_S_) :
      (⟨S32x16, .f32⟩ : BufTy).Contents (Elt F) → (⟨S_, .f32⟩ : BufTy).Contents (Elt F) → (⟨S_, .f32⟩ : BufTy).Contents (Elt F)),
    StableHlo.reshape main_v2_1 main_v7 (rfl : (.f32 : EltTy) = .f32) shapeCasts_S1x1_S_,
    binary main_v6 main_v7 main_v8 (addf :
      (⟨S_, .f32⟩ : BufTy).Contents (Elt F) → (⟨S_, .f32⟩ : BufTy).Contents (Elt F) → (⟨S_, .f32⟩ : BufTy).Contents (Elt F)) ]

/-- The program's text is these operations with the two kernels between. -/
theorem main_eq (d : Dev nD) : main (F := F) d
    = (StableHlo.seq opsA >>= fun _ => (SparseCore.liftProg (Prog.lift (.customCall (Pipeline.entry 0) ())) >>= fun _ =>
        (StableHlo.seq opsB >>= fun _ => (K (F := F)).run d 0 >>= fun _ => (StableHlo.seq opsC >>= fun _ => pure ⟨⟩)))) := rfl

/-! ### What every buffer holds as the program goes -/

variable (m : (ℓ : Loc nD τ sig) → Buf (Elt F) ℓ)

/-- At the launch. -/
def V0 (d : Dev nD) : Valuation τ sig (Elt F) := fun b => m (d, b)
/-- Before the dense kernel. -/
def V1 (d : Dev nD) : Valuation τ sig (Elt F) := StableHlo.after opsA (V0 m d)
/-- After the dense kernel. -/
def V2 (d : Dev nD) : Valuation τ sig (Elt F) := afterTc (V1 m) d
/-- Before the SparseCore's call. -/
def V3 (d : Dev nD) : Valuation τ sig (Elt F) := StableHlo.after opsB (V2 m d)
/-- The table the workers read. -/
def tabAt (d : Dev nD) : S1015808.Idx → F .f32 := V3 m d (Proc.devRef .tc main_v3)
/-- The indices the workers read. -/
def ixsAt (d : Dev nD) : S3276800.Idx → BitVec 32 := V3 m d (Proc.devRef .tc main_v4)
/-- What the workers' result holds before they write it. -/
def outAt (d : Dev nD) : S32x16.Idx → F .f32 := V3 m d (Proc.devRef .tc main_v5)
/-- After the SparseCore's call. -/
def V4 (d : Dev nD) : Valuation τ sig (Elt F) :=
  Function.update (V3 m d) (Proc.devRef .tc main_v5) (show S32x16.Idx → F .f32 from allSums (tabAt m d) (ixsAt m d))
/-- At the end. -/
def V5 (d : Dev nD) : Valuation τ sig (Elt F) := StableHlo.after opsC (V4 m d)

theorem V4_out (d : Dev nD) : V4 m d (Proc.devRef .tc main_v5) = (show S32x16.Idx → F .f32 from allSums (tabAt m d) (ixsAt m d)) :=
  Function.update_self ..
theorem V4_other (d : Dev nD) (b : DevRef τ sig) (h : b ≠ Proc.devRef .tc main_v5) : V4 m d b = V3 m d b := Function.update_of_ne h ..

/-! ### The buffers of the SparseCore's call, among the host's -/

/-- The table, the indices, the workers' result. -/
def callRefs : Finset (DevRef τ sig) := {Proc.devRef .tc main_v3, Proc.devRef .tc main_v4, Proc.devRef .tc main_v5}

theorem callRefs_sub : callRefs ⊆ hostRefs := by decide

theorem held_callRefs (d : Dev nD) (W : Valuation τ sig (Elt F)) (tab : S1015808.Idx → F .f32) (ixs : S3276800.Idx → BitVec 32) (fo : S32x16.Idx → F .f32)
    (ht : W (Proc.devRef .tc main_v3) = tab) (hi : W (Proc.devRef .tc main_v4) = ixs) (ho : W (Proc.devRef .tc main_v5) = fo) :
    (StableHlo.held (SparseCore.T d) callRefs W : sProp 𝕄)
      = iprop((tabLoc d ↦{fullShare} (show Buf (Elt F) (tabLoc d) from tab)) ∗ (ixLoc d ↦{fullShare} (show Buf (Elt F) (ixLoc d) from ixs))
        ∗ outLoc d ↦{fullShare} (show Buf (Elt F) (outLoc d) from fo)) := by
  subst ht hi ho
  unfold StableHlo.held callRefs
  rw [SparseCore.bigSep_insert' (by decide), SparseCore.bigSep_insert' (by decide), bigSep_singleton]

/-- The host's buffers are those of the call, dealt to the workers, and the rest. -/
theorem held_parts (d : Dev nD) (W : Valuation τ sig (Elt F)) (tab : S1015808.Idx → F .f32) (ixs : S3276800.Idx → BitVec 32) (fo : S32x16.Idx → F .f32)
    (ht : W (Proc.devRef .tc main_v3) = tab) (hi : W (Proc.devRef .tc main_v4) = ixs) (ho : W (Proc.devRef .tc main_v5) = fo) :
    (StableHlo.held (SparseCore.T d) hostRefs W : sProp 𝕄)
      = iprop((bigSep Finset.univ fun c : Fin ((K (F := F)).nCore 0) => bigSep Finset.univ fun i : Fin 16 => part d tab ixs fo (worker (Fin.cast nCore_zero c) i))
        ∗ StableHlo.held (SparseCore.T d) (hostRefs \ callRefs) W) := by
  rw [StableHlo.held_sub_split (SparseCore.T d) callRefs_sub, held_callRefs d W tab ixs fo ht hi ho, parts_eq]
  rfl

/-! ### The launch element of the ghost state -/

/-- The handshakes' rounds, the pipeline's rounds, the counters. -/
def u₀ : UU := (initOf (K (F := F)).hsCells (K (F := F)).hsToks, (initOf (Pipeline.cells cfgs cellOf_inj) (Pipeline.launchToks cfgs cellOf_inj), 1))

/-- What the dense kernel's region takes of the ghost state. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem bigSep_nothing {I : Type} (s : Finset I) : (bigSep s fun _ => iprop(emp)) = (iprop(emp) : sProp 𝕄) := bigSep_emp_const s

theorem hu₀ (tab : Dev nD → S1015808.Idx → F .f32) (ixs : Dev nD → S3276800.Idx → BitVec 32) (fo : Dev nD → S32x16.Idx → F .f32) :
    (ownU (u₀ (F := F)) : sProp 𝕄)
      ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tab ixs fo).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)))) $$ Hu
  icases H with ⟨HH, HR⟩
  ihave H := (own_pair_emb (embR : Emb (UP × Counters) 𝕄) (initOf (Pipeline.cells cfgs cellOf_inj) (Pipeline.launchToks cfgs cellOf_inj)) (1 : Counters)) $$ HR
  icases H with ⟨HP, -⟩
  ihave HP := (Entails.of_eq (show (BI.own (((Emb.inl : Emb UP (UP × Counters)).trans (embR : Emb (UP × Counters) 𝕄))
      (initOf (Pipeline.cells cfgs cellOf_inj) (Pipeline.launchToks cfgs cellOf_inj))) : sProp 𝕄)
    = BI.own (EP (F := F) (initOf (Pipeline.cells cfgs cellOf_inj) (Pipeline.launchToks cfgs cellOf_inj))) from rfl)) $$ HP
  imod ((Pipeline.fund_ghost cfgs (EP (F := F)) cellOf_inj)) $$ HP with ⟨Hc, Ht⟩
  imodintro
  isplitl [HH]; · iexact HH
  isplitl [Hc Ht]
  · rw [show (bigSep Finset.univ fun d : Dev nD => G d : sProp 𝕄) = G 0 from bigSep_univ_of_subsingleton (0 : Dev nD)]
    ihave Hc := (Entails.of_eq ((bigSep_univ_of_subsingleton (0 : Dev nD)).trans (bigSep_univ_of_subsingleton (0 : Fin 1)))) $$ Hc
    ihave Ht := (Entails.of_eq ((bigSep_univ_of_subsingleton (0 : Dev nD)).trans (bigSep_univ_of_subsingleton (0 : Fin 1)))) $$ Ht
    isplitl [Hc]; · iexact Hc
    iexact Ht
  rw [show (bigSep Finset.univ fun thr : Thread nD τ => bigSep Finset.univ fun q : Fin 1 => (P tab ixs fo).x q thr) = (bigSep Finset.univ fun _ => iprop(emp)) from
    bigSep_congr fun _ _ => bigSep_univ_of_subsingleton (0 : Fin 1), bigSep_nothing]
  iempintro

/-! ### @main on the TensorCore -/

theorem bufs_host {op : HloOp τ sig (Elt F)} (h : op.bufs ⊆ StableHlo.tcRefs τ sig) : op.bufs ⊆ hostRefs :=
  fun b hb => Finset.mem_filter.mpr ⟨h hb, fun h' => Bool.false_ne_true ((op.no_scoped b hb).symm.trans h')⟩

theorem opsA_sub : ∀ op ∈ (opsA : List (HloOp τ sig (Elt F))), op.bufs ⊆ hostRefs := by
  intro op h
  simp only [List.mem_cons, List.not_mem_nil, or_false] at h
  rcases h with rfl | rfl | rfl | rfl
  · exact bufs_host (StableHlo.nullary_bufs_sub ..)
  · exact bufs_host (StableHlo.unary_bufs_sub ..)
  · exact bufs_host (StableHlo.binary_bufs_sub ..)
  · exact bufs_host (StableHlo.reshape_bufs_sub ..)
theorem opsB_sub : ∀ op ∈ (opsB : List (HloOp τ sig (Elt F))), op.bufs ⊆ hostRefs := by
  intro op h
  simp only [List.mem_cons, List.not_mem_nil, or_false] at h
  rcases h with rfl | rfl
  · exact bufs_host (StableHlo.reshape_bufs_sub ..)
  · exact bufs_host (StableHlo.reshape_bufs_sub ..)
theorem opsC_sub : ∀ op ∈ (opsC : List (HloOp τ sig (Elt F))), op.bufs ⊆ hostRefs := by
  intro op h
  simp only [List.mem_cons, List.not_mem_nil, or_false] at h
  rcases h with rfl | rfl | rfl | rfl
  · exact bufs_host (StableHlo.nullary_bufs_sub ..)
  · exact bufs_host (StableHlo.binary_bufs_sub ..)
  · exact bufs_host (StableHlo.reshape_bufs_sub ..)
  · exact bufs_host (StableHlo.binary_bufs_sub ..)
theorem opsA_fresh : ∀ op ∈ (opsA : List (HloOp τ sig (Elt F))), op.fresh = ∅ := by
  intro op h
  simp only [List.mem_cons, List.not_mem_nil, or_false] at h
  rcases h with rfl | rfl | rfl | rfl <;> rfl
theorem opsB_fresh : ∀ op ∈ (opsB : List (HloOp τ sig (Elt F))), op.fresh = ∅ := by
  intro op h
  simp only [List.mem_cons, List.not_mem_nil, or_false] at h
  rcases h with rfl | rfl <;> rfl
theorem opsC_fresh : ∀ op ∈ (opsC : List (HloOp τ sig (Elt F))), op.fresh = ∅ := by
  intro op h
  simp only [List.mem_cons, List.not_mem_nil, or_false] at h
  rcases h with rfl | rfl | rfl | rfl <;> rfl

/-- What the TensorCore leaves for the result to be read from. -/
abbrev FIN (d : Dev nD) : sProp 𝕄 := StableHlo.held (SparseCore.T d) hostRefs (V5 m d)

variable (ρ : Dev nD → PrngReg)

/-- The handshakes' part of the TensorCore's state at the launch, besides what it owes. -/
theorem tcSt_owing (d : Dev nD) : ∃ R : sProp 𝕄, ((K (F := F)).tcSt EH d 0 : sProp 𝕄) = iprop(owing d ∗ R) := ⟨_, rfl⟩

/-- @main on device `d`'s TensorCore, from the launch memory to the end with every buffer of the host at its last value. -/
theorem hmain [∀ e, Nonempty (Elt F e)] (κ : GSem nD τ sig → ℕ) (d : Dev nD) :
    iprop((K (F := F)).ctx EH (P (tabAt m) (ixsAt m) (outAt m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_owing (F := F) d
  unfold SparseCore.Cfg.tcRes SparseCore.Cfg.tcEnd
  rw [show (unscopedBufs d (fun b => m ((SparseCore.T d).loc b)) : sProp 𝕄) = StableHlo.held (SparseCore.T d) hostRefs (V0 m d) from unscoped_held d (V0 m d),
    main_eq, hR]
  iintro ⟨#Hctx, ⟨Howe, HR⟩, ⟨Hb, Hh, Hts, -⟩, Hg⟩
  iapply (StableHlo.wp_seq 𝒱 none Set.univ d hostRefs _ opsA opsA_sub opsA_fresh (V0 m d)) $$ [Hb Hh]
  · isplitl [Hb]; · iexact Hb
    iexact Hh
  iintro ⟨Hb, Hh⟩
  rw [wp_bind]
  iapply ((K (F := F)).wp_liftProg (D (F := F)) 𝒱 (SparseCore.T d) Set.univ none (Prog.lift (.customCall (Pipeline.entry 0) ())) _)
  ihave Hlev := (SparseCore.Cfg.ctx_levAts κ) $$ Hctx
  iapply (Pipeline.RegionSeg.wp (pcfgs (F := F)) adm (pdats (V1 m)) none cellOf_inj (EP (F := F)) (defs₀ (F := F)) 𝒱₀ (K (F := F)).L (K (F := F)).lev
    (region (V1 m)) d none (fun u hu => absurd hu (by simp)) (fun x => .ret x) _)
  isplitr [Hb Hh Howe Hg]
  · iintro ⟨Hb, Hpost⟩
    ihave Hpost := (Entails.of_eq (show ((region (V1 m)).post d : sProp 𝕄) = iprop(StableHlo.held (SparseCore.T d) hostRefs (V2 m d) ∗ owing d) from rfl)) $$ Hpost
    icases Hpost with ⟨Hh, Howe⟩
    rw [wp_ret]
    imodintro
    iapply (StableHlo.wp_seq 𝒱 none Set.univ d hostRefs _ opsB opsB_sub opsB_fresh (V2 m d)) $$ [Hb Hh]
    · isplitl [Hb]; · iexact Hb
      iexact Hh
    iintro ⟨Hb, Hh⟩
    rw [wp_bind]
    ihave Hh := (Entails.of_eq (show (StableHlo.held (d.tc : Thread nD τ) hostRefs (StableHlo.after opsB (V2 m d)) : sProp 𝕄)
      = StableHlo.held (SparseCore.T d) hostRefs (V3 m d) from rfl)) $$ Hh
    ihave Hh := (Entails.of_eq (held_parts d (V3 m d) (tabAt m d) (ixsAt m d) (outAt m d) rfl rfl rfl)) $$ Hh
    icases Hh with ⟨Hst, Hrest⟩
    iapply ((K (F := F)).wp_run (D (F := F)) 𝒱 (EH := EH) (P := P (tabAt m) (ixsAt m) (outAt m)) κ d 0)
    isplitr; · iexact Hctx
    isplitl [Howe HR]
    · iapply (Entails.of_eq hR.symm)
      isplitl [Howe]; · iexact Howe
      iexact HR
    isplitl [Hst]; · iexact Hst
    iintro ⟨Hst, Hdn⟩
    ihave Hh := (Entails.of_eq (held_parts d (V4 m d) (tabAt m d) (ixsAt m d) (allSums (tabAt m d) (ixsAt m d))
      (V4_other m d _ (by decide)) (V4_other m d _ (by decide)) (V4_out m d)).symm) $$ [Hdn Hrest]
    · isplitl [Hdn]; · iexact Hdn
      iapply (Entails.of_eq (StableHlo.held_congr (SparseCore.T d) fun b hb => (V4_other m d b fun h => by
        subst h; exact absurd hb (by decide)).symm))
      iexact Hrest
    iapply (StableHlo.wp_seq 𝒱 none Set.univ d hostRefs _ opsC opsC_sub opsC_fresh (V4 m d)) $$ [Hb Hh]
    · isplitl [Hb]; · iexact Hb
      iexact Hh
    iintro ⟨Hb, Hh⟩
    rw [wp_pure]
    imodintro
    isplitl [Hst]; · iexact Hst
    isplitl [Hh]; · iexact Hh
    isplitl [Hb]; · iexact Hb
    iexact Hts
  isplitl [Hb]; · iexact Hb
  isplitl [Hh Howe]
  · iapply (Entails.of_eq (show iprop(StableHlo.held (SparseCore.T d) hostRefs (V1 m d) ∗ owing d) = ((region (V1 m)).pre d : sProp 𝕄) from rfl))
    isplitl [Hh]; · iexact Hh
    iexact Howe
  isplitr; · iexact Hlev
  iexact Hg

/-! ### The end of the run -/

/-- What a buffer of the host's holds at the end is what it holds. -/
theorem held_agree (d : Dev nD) (s' : Phys nD τ sig (Elt F)) (b : Ref sig .tc) (hb : Proc.devRef .tc b ∈ hostRefs) (W : Valuation τ sig (Elt F)) :
    iprop(StableHlo.held (SparseCore.T d) hostRefs W ∗ SI s') ⊢ (⌜s'.mem.mem ((SparseCore.T d).loc b) = W (Proc.devRef .tc b)⌝ : sProp 𝕄) := by
  unfold StableHlo.held
  rw [SparseCore.bigSep_erase' hb]
  iintro ⟨⟨Hb, -⟩, HSI⟩
  ihave H := (SI_pointsTo_agree (st := s') (ℓ := (SparseCore.T d).loc b) (I := Finset.univ) (q := fullShare) (f := W (Proc.devRef .tc b))) $$ [HSI Hb]
  · isplitl [HSI]; · iexact HSI
    iexact Hb
  icases H with %h
  ipureintro; exact funext fun i => h i (Finset.mem_univ i)

/-- The result and the two arguments at the end. -/
def fq (d : Dev nD) (s' : Phys nD τ sig (Elt F)) : Prop :=
  s'.mem.mem ((SparseCore.T d).loc main_v8) = V5 m d (Proc.devRef .tc main_v8)
    ∧ s'.mem.mem ((SparseCore.T d).loc main_arg0) = V5 m d (Proc.devRef .tc main_arg0)
    ∧ s'.mem.mem ((SparseCore.T d).loc main_arg1) = V5 m d (Proc.devRef .tc main_arg1)

theorem hfin (d : Dev nD) (s' : Phys nD τ sig (Elt F)) : iprop(FIN m d ∗ SI s') ⊢ (⌜fq m d s'⌝ : sProp 𝕄) := by
  iintro ⟨Hh, HSI⟩
  ihave H := (persistent_entails_right (held_agree d s' main_v8 (by decide) (V5 m d))) $$ [Hh HSI]
  · isplitl [Hh]; · iexact Hh
    iexact HSI
  icases H with ⟨%h1, H⟩
  ihave H := (persistent_entails_right (held_agree d s' main_arg0 (by decide) (V5 m d))) $$ H
  icases H with ⟨%h2, H⟩
  ihave H := (held_agree d s' main_arg1 (by decide) (V5 m d)) $$ H
  icases H with %h3
  ipureintro; exact ⟨h1, h2, h3⟩

end Cert.Proof.KernelIdeal

end
-- ==== Proof.KIRun.lean ====
/-
  The program's run: from any launch memory whose indices lie in the table, every execution ends with the result at its
  named value, the two arguments unchanged and every semaphore at zero.
-/
module

public import proofs.«01_k».proof.Proof.KILaunch

@[expose] public section

noncomputable section

namespace Cert.Proof.KernelIdeal

open Cert.KernelIdeal Cert.KernelIdeal.Gen

open Idealize.ShloMosaic
open Idealize.ShloMosaic.SparseCore.Cfg (HIx Pay)
open Idealize.ShloMosaic.StableHlo (nullary unary binary)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ### The values, as functions of the arguments -/

/-- The weights padded with zeros, in rows of 128. -/
def weightRows (w : S999999.Idx → F .f32) : S7936x128.Idx → F .f32 :=
  shapeCast S7936x128 (pad S1015808 ![0] ![15809] ![0] w (sitofp .f32 (constantI S_ 32 0#32)) pads_S999999_S1015808_0158090 h_S_ : Vec F S1015808 .f32)
    shapeCasts_S1015808_S7936x128

/-- The table the dense kernel makes of the weights, in a line. -/
def tableLine (w : S999999.Idx → F .f32) : S1015808.Idx → F .f32 :=
  shapeCast S1015808 (show Vec F S7936x128 .f32 from tableRows (weightRows w)) shapeCasts_S7936x128_S1015808

/-- The indices in a line. -/
def indexLine (xs : S16384x200.Idx → BitVec 32) : S3276800.Idx → BitVec 32 :=
  shapeCast S3276800 (show IVec S16384x200 32 from xs) shapeCasts_S16384x200_S3276800

/-- The program's result: the workers' partial sums of looked-up entries, added up, and the dense kernel's sum of terms. -/
def resultOf (xs : S16384x200.Idx → BitVec 32) (w : S999999.Idx → F .f32) : S_.Idx → F .f32 :=
  addf (Host.reduceAdd (show Vec F S32x16 .f32 from allSums (tableLine w) (indexLine xs)) (constant S_ .f32 0x00000000#32) reducesTo_S32x16_S_d0_1 h_S_ : Vec F S_ .f32)
    (shapeCast S_ (termsRow (weightRows w)) shapeCasts_S1x1_S_)

variable (m : (ℓ : Loc nD τ sig) → Buf (Elt F) ℓ) (ρ : Dev nD → PrngReg)

/-- The indices and the weights in the launch memory. -/
abbrev xsOf (d : Dev nD) : S16384x200.Idx → BitVec 32 := m ((d.tc : Thread nD τ).loc main_arg0)
abbrev wOf (d : Dev nD) : S999999.Idx → F .f32 := m ((d.tc : Thread nD τ).loc main_arg1)

theorem V1_rows (d : Dev nD) : V1 m d (Proc.devRef .tc main_v1) = weightRows (wOf m d) := by
  unfold V1
  after_results
  rfl
theorem V2_arg0 (d : Dev nD) : V2 m d (Proc.devRef .tc main_arg0) = xsOf m d := by
  unfold V2
  rw [afterTc_other _ d main_arg0 (by decide)]
  unfold V1
  after_results
  rfl
theorem V3_v3 (d : Dev nD) : V3 m d (Proc.devRef .tc main_v3)
    = shapeCast S1015808 (show Vec F S7936x128 .f32 from V2 m d (Proc.devRef .tc main_v2_0)) shapeCasts_S7936x128_S1015808 := by
  unfold V3
  after_results
  rfl
theorem V3_v4 (d : Dev nD) : V3 m d (Proc.devRef .tc main_v4)
    = shapeCast S3276800 (show IVec S16384x200 32 from V2 m d (Proc.devRef .tc main_arg0)) shapeCasts_S16384x200_S3276800 := by
  unfold V3
  after_results
  rfl
theorem V3_v2_1 (d : Dev nD) : V3 m d (Proc.devRef .tc main_v2_1) = V2 m d (Proc.devRef .tc main_v2_1) := by
  unfold V3
  after_results
theorem tabAt_eq (d : Dev nD) : tabAt m d = tableLine (wOf m d) := by
  unfold tabAt tableLine
  rw [V3_v3, show V2 m d (Proc.devRef .tc main_v2_0) = _ from afterTc_table (V1 m) d]
  unfold rowsOf
  rw [V1_rows]
theorem ixsAt_eq (d : Dev nD) : ixsAt m d = indexLine (xsOf m d) := by
  unfold ixsAt indexLine
  rw [V3_v4, V2_arg0]
theorem V5_result (d : Dev nD) : V5 m d (Proc.devRef .tc main_v8) = resultOf (xsOf m d) (wOf m d) := by
  have h1 : V4 m d (Proc.devRef .tc main_v2_1) = termsRow (weightRows (wOf m d)) := by
    rw [V4_other m d _ (by decide), V3_v2_1, show V2 m d (Proc.devRef .tc main_v2_1) = _ from afterTc_terms (V1 m) d]
    unfold rowsOf
    rw [V1_rows]
  have h2 : V4 m d (Proc.devRef .tc main_v5) = allSums (tableLine (wOf m d)) (indexLine (xsOf m d)) := by
    rw [V4_out, tabAt_eq, ixsAt_eq]
  have h : V5 m d (Proc.devRef .tc main_v8)
      = addf (Host.reduceAdd (show Vec F S32x16 .f32 from V4 m d (Proc.devRef .tc main_v5)) (constant S_ .f32 0x00000000#32) reducesTo_S32x16_S_d0_1 h_S_ : Vec F S_ .f32)
        (shapeCast S_ (show Vec F S1x1 .f32 from V4 m d (Proc.devRef .tc main_v2_1)) shapeCasts_S1x1_S_) := by
    unfold V5
    after_results
    rfl
  rw [h, h1, h2]
  rfl

theorem V5_arg0 (d : Dev nD) : V5 m d (Proc.devRef .tc main_arg0) = m ((d.tc : Thread nD τ).loc main_arg0) := by
  unfold V5
  after_results
  rw [V4_other m d _ (by decide)]
  unfold V3
  after_results
  exact V2_arg0 m d
theorem V5_arg1 (d : Dev nD) : V5 m d (Proc.devRef .tc main_arg1) = m ((d.tc : Thread nD τ).loc main_arg1) := by
  unfold V5
  after_results
  rw [V4_other m d _ (by decide)]
  unfold V3
  after_results
  unfold V2
  rw [afterTc_other _ d main_arg1 (by decide)]
  unfold V1
  after_results
  rfl

/-! ### The run -/

/-- Every index is a row of the table the reference makes. -/
def PreOK : Prop := ∀ (d : Dev nD) (j : S16384x200.Idx), (xsOf m d j).toNat < 1000000

theorem inRange (hpre : PreOK m) (d : Dev nD) : InRange (ixsAt m d) := by
  rw [ixsAt_eq]
  intro x
  exact lt_trans (hpre d _) (by decide)

/-- The result, the arguments and the semaphores at the end. -/
def QC : PUnit × MemSt nD τ sig (Elt F) → Prop := fun r =>
  (∀ c : Dev nD, r.2.mem ((c.tc : Thread nD τ).loc main_v8) = resultOf (xsOf m c) (wOf m c)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- Every execution from indices in range ends with the result at its value, the arguments unchanged, the semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabAt m) (ixsAt m) (outAt m)) (A := ∅) facts v₀
    (fun q hq => match q with | 0 => nomatch hq)
    (fun q _ => match q with | 0 => tileObl (tabAt m) (ixsAt m) (outAt m) (inRange m hpre))
    (fun q _ => match q with | 0 => SparseCore.Cfg.VecSplit.of_plain (vecSplit (tabAt m) (ixsAt m) (outAt m)))
    m ρ main (fun d => G d) (FIN m) (u₀ (F := F)) (sep_elim_left.trans (hu₀ (tabAt m) (ixsAt m) (outAt m))) (hmain m ρ) (fq m) (hfin m) (QC m)
    (fun _ h hz => ⟨fun c => ⟨(h c).1.trans (V5_result m c), (h c).2.1.trans (V5_arg0 m c), (h c).2.2.trans (V5_arg1 m c)⟩, hz⟩)

end Cert.Proof.KernelIdeal

end
-- ==== Proof.Frames.lean ====
/-
  The frames: the kernel's program and the reference run to the end with their arguments unchanged and every semaphore
  at zero; and what the precondition says of the indices.
-/
module

public import proofs.«01_k».proof.Proof.KIRun
public import proofs.«01_k».proof.Proof.KBRun
public import proofs.«01_k».proof.Proof.Gen.ReferenceIdeal.Run
public import proofs.«01_k».proof.Proof.Gen.Kernel.Points
public import proofs.«01_k».proof.Proof.Gen.KernelIdeal.Points
public import proofs.«01_k».proof.Proof.Gen.Pre_in_range
public import proofs.«01_k».proof.Defs

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_range.Facts := Cert.Pre_in_range.Gen.facts

/-- The precondition all ones says that every index, read as an unsigned word, is below the table's million entries. -/
theorem in_range_of_pre {F : FTy → Type} [FloatOps F] (xs : Cert.Pre_in_range.S16384x200.Idx → BitVec 32) (w : Cert.Pre_in_range.S999999.Idx → F .f32)
    (h : Cert.Pre_in_range.fn (F := F) xs w = fun _ => 1#1) (j : Cert.Pre_in_range.S16384x200.Idx) : (xs j).toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1000000#32) = 1#1 → v.toNat < 1000000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_in_range.fn, andi, cmpi, broadcastInDim, constantI] at e
  exact key _ e

theorem ok_Kernel (m : (ℓ : Loc Cert.Kernel.nD Cert.Kernel.τ Cert.Kernel.sig) → Buf (Elt Bits) ℓ) (h : Cert.Pre_Kernel m) : Kernel.PreOK (F := Bits) m :=
  fun d j => in_range_of_pre _ _ (h d) j
theorem ok_KernelIdeal (m : (ℓ : Loc Cert.KernelIdeal.nD Cert.KernelIdeal.τ Cert.KernelIdeal.sig) → Buf (Elt Ideal) ℓ) (h : Cert.Pre_KernelIdeal m) :
    KernelIdeal.PreOK (F := Ideal) m :=
  fun d j => in_range_of_pre _ _ (h d) j

/-- `Cert.quiescent_Kernel` (Defs.lean). -/
theorem frame_Kernel : Cert.quiescent_Kernel := fun m ρ hpre =>
  (θ_run Cert.Kernel.defs _ _).mono (fun _ h => ⟨fun c => (h.1 c).2, h.2⟩) (Kernel.run_main (F := Bits) m ρ (ok_Kernel m hpre))

/-- `Cert.quiescent_KernelIdeal` (Defs.lean). -/
theorem frame_KernelIdeal : Cert.quiescent_KernelIdeal := fun m ρ hpre =>
  (θ_run Cert.KernelIdeal.defs _ _).mono (fun _ h => ⟨fun c => (h.1 c).2, h.2⟩) (KernelIdeal.run_main (F := Ideal) m ρ (ok_KernelIdeal m hpre))

/-- `Cert.quiescent_ReferenceIdeal` (Defs.lean): the reference's program declares no semaphore. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- `Cert.quiescent_ReferenceIdeal_pre_in_range` (Defs.lean): the same, whatever the indices. -/
theorem frame_ReferenceIdeal_in_range : Cert.quiescent_ReferenceIdeal_pre_in_range := fun m ρ _ =>
  frame_ReferenceIdeal m ρ trivial

end Cert.Proof

end
-- ==== Proof.Numbers.lean ====
/-
  The numbers both programs compute, over the extended reals: the two log-sigmoids of one logit, the table of
  log-probabilities by entry number, the terms of the regulariser, and the sums of them regrouped.
-/
module

public import Idealize.ShloMosaic.PureOps.Ideal
public import Idealize.ShloMosaic.PureOps.Ideal.Laws
public import Mathlib.Algebra.BigOperators.Intervals
public import Mathlib.Data.EReal.Operations

@[expose] public section

noncomputable section

namespace Cert.Proof.Numbers

open Idealize.ShloMosaic
open scoped BigOperators

/-! ### The two log-sigmoids -/

/-- The logarithm of one plus the exponential of `-|x|`. -/
def tail (x : EReal) : EReal := Ideal.log1p (Ideal.exp (-(max x (-x))))

/-- The log-sigmoid of `x`. -/
def logOf (x : EReal) : EReal := min x 0 - tail x

/-- The log-sigmoid of `-x`. -/
def logNot (x : EReal) : EReal := min (-x) 0 - tail x

/-- The stable softplus of `x`. -/
def softplus (x : EReal) : EReal := max x 0 + tail x

theorem tail_neg (x : EReal) : tail (-x) = tail x := by
  unfold tail; rw [neg_neg, max_comm]

/-- `tail` is finite at every extended real. -/
theorem tail_real (x : EReal) : ∃ r : ℝ, tail x = (r : EReal) := by
  have key : ∀ y : EReal, y ≤ 0 → ∃ r : ℝ, Ideal.log1p (Ideal.exp y) = (r : EReal) := by
    intro y hy
    have he : ∃ e : ℝ, 0 ≤ e ∧ Ideal.exp y = (e : EReal) := by
      induction y using EReal.rec with
      | bot => exact ⟨0, le_refl _, rfl⟩
      | coe r => exact ⟨Real.exp r, (Real.exp_pos r).le, rfl⟩
      | top => exact absurd hy (by simp)
    obtain ⟨e, h0, he⟩ := he
    refine ⟨Real.log (1 + e), ?_⟩
    rw [he]
    show Ideal.log (1 + (e : EReal)) = _
    rw [show (1 + (e : EReal)) = ((1 + e : ℝ) : EReal) by push_cast; rfl]
    show (if 1 + e ≤ 0 then (⊥ : EReal) else (Real.log (1 + e) : EReal)) = _
    rw [if_neg (by linarith)]
  refine key _ ?_
  rw [EReal.neg_le, neg_zero]
  rcases le_total 0 x with h | h
  · exact le_max_of_le_left h
  · exact le_max_of_le_right (by rwa [EReal.le_neg, neg_zero])

theorem neg_max (a b : EReal) : -(max a b) = min (-a) (-b) := by
  rcases le_total a b with h | h
  · rw [max_eq_right h, min_eq_right (EReal.neg_le_neg_iff.mpr h)]
  · rw [max_eq_left h, min_eq_left (EReal.neg_le_neg_iff.mpr h)]

/-- Minus a softplus is the log-sigmoid of the negated argument. -/
theorem neg_softplus (x : EReal) : -(softplus x) = logOf (-x) := by
  obtain ⟨r, hr⟩ := tail_real x
  unfold softplus logOf
  rw [tail_neg, hr, EReal.neg_add (Or.inr (EReal.coe_ne_top _)) (Or.inr (EReal.coe_ne_bot _)), neg_max, neg_zero]

theorem logOf_neg (x : EReal) : logOf (-x) = logNot x := by
  unfold logOf logNot; rw [tail_neg]

/-! ### Sums over blocks -/

section Blocks

variable {M : Type*} [AddCommMonoid M]

/-- `a` blocks of `b` terms, one after another, are the `a * b` terms in order. -/
theorem sum_blocks (f : ℕ → M) (a b : ℕ) :
    ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

/-- A term counted once for every later place is counted that many times. -/
theorem sum_before (s : ℕ → M) (n : ℕ) :
    ∑ k ∈ Finset.range n, ∑ j ∈ Finset.range k, s j = ∑ j ∈ Finset.range n, (n - 1 - j) • s j := by
  induction n with
  | zero => simp
  | succ n ih =>
    rw [Finset.sum_range_succ, ih, Finset.sum_range_succ, Nat.add_sub_cancel, Nat.sub_self, zero_smul, add_zero,
      ← Finset.sum_add_distrib]
    refine Finset.sum_congr rfl fun j hj => ?_
    have := Finset.mem_range.mp hj
    rw [← succ_nsmul]
    congr 1; omega

/-- Terms that vanish from place `n` on may be summed as far as one likes. -/
theorem sum_pad (f : ℕ → M) {n m : ℕ} (h : n ≤ m) (hf : ∀ k, n ≤ k → f k = 0) :
    ∑ k ∈ Finset.range m, f k = ∑ k ∈ Finset.range n, f k := by
  refine (Finset.sum_subset (Finset.range_mono h) fun k _ hk => hf k ?_).symm
  simpa using hk

/-- Only the terms below a bound are picked by an indicator. -/
theorem sum_below (f : ℕ → M) (n m : ℕ) (h : m ≤ n) :
    ∑ k ∈ Finset.range n, (if k < m then f k else 0) = ∑ k ∈ Finset.range m, f k := by
  rw [sum_pad (fun k => if k < m then f k else 0) h fun k hk => if_neg (by omega)]
  exact Finset.sum_congr rfl fun k hk => if_pos (Finset.mem_range.mp hk)

end Blocks

/-- A natural weight times an extended real is that many copies. -/
theorem weight_mul (n : ℕ) (x : EReal) : ((n : ℝ) : EReal) * x = n • x := by
  rw [EReal.nsmul_eq_mul]; rfl

/-! ### The table and the regulariser by entry number -/

/-- The `k`-th weight. -/
def weightAt (w : (⟨1, ![999999]⟩ : Shape).Idx → EReal) (k : ℕ) : EReal :=
  if h : k < 999999 then w (fun | 0 => ⟨k, h⟩) else 0

/-- The `k`-th logit: the weight less the logarithm of how many entries are left. -/
def logit (w : (⟨1, ![999999]⟩ : Shape).Idx → EReal) (k : ℕ) : EReal :=
  weightAt w k - Ideal.log (((BitVec.ofNat 32 (999999 - k)).toInt : ℝ) : EReal)

/-- The log-probability of stopping at entry `k`, nothing at or past the last entry. -/
def stop (w : (⟨1, ![999999]⟩ : Shape).Idx → EReal) (k : ℕ) : EReal := if k < 999999 then logOf (logit w k) else 0

/-- The log-probability of passing entry `k`, nothing at or past the last entry. -/
def pass (w : (⟨1, ![999999]⟩ : Shape).Idx → EReal) (k : ℕ) : EReal := if k < 999999 then logNot (logit w k) else 0

/-- The log-probability of entry `k`: every entry before it passed, and stopped there. -/
def entry (w : (⟨1, ![999999]⟩ : Shape).Idx → EReal) (k : ℕ) : EReal := stop w k + ∑ j ∈ Finset.range k, pass w j

/-- The regulariser's terms, entry by entry. -/
def regular (w : (⟨1, ![999999]⟩ : Shape).Idx → EReal) : EReal :=
  ∑ k ∈ Finset.range 999999, ((-(logit w k) + stop w k) + entry w k)

/-- Entry `k`'s share of the regulariser with the entries it is counted in put together. -/
def share (w : (⟨1, ![999999]⟩ : Shape).Idx → EReal) (k : ℕ) : EReal :=
  (if k < 999999 then (0 - logit w k) + 2 * logOf (logit w k) else 0)
    + (((BitVec.ofNat 32 (999998 - k)).toInt : ℝ) : EReal) * pass w k

theorem toInt_small {n : ℕ} (h : n < 2147483648) : (BitVec.ofNat 32 n).toInt = (n : ℤ) := by
  rw [BitVec.toInt_eq_toNat_cond, BitVec.toNat_ofNat, Nat.mod_eq_of_lt (by omega), if_pos (by omega)]

/-- The shares of a longer table, whose further entries are padding, sum to the regulariser. -/
theorem sum_share (w : (⟨1, ![999999]⟩ : Shape).Idx → EReal) :
    ∑ k ∈ Finset.range 1015808, share w k = regular w := by
  rw [sum_pad (share w) (show 999999 ≤ 1015808 by omega) fun k hk => by
    unfold share pass; rw [if_neg (by omega), if_neg (by omega), mul_zero, add_zero]]
  have h1 : ∀ k ∈ Finset.range 999999,
      share w k = ((-(logit w k) + stop w k) + stop w k) + (999999 - 1 - k) • pass w k := by
    intro k hk
    have hk := Finset.mem_range.mp hk
    unfold share stop
    rw [if_pos hk, if_pos hk, toInt_small (by omega), Int.cast_natCast, weight_mul, zero_sub,
      show (2 : EReal) * logOf (logit w k) = logOf (logit w k) + logOf (logit w k) by
        rw [← two_nsmul, EReal.nsmul_eq_mul]; rfl, ← add_assoc (-(logit w k))]
  rw [Finset.sum_congr rfl h1, Finset.sum_add_distrib, ← sum_before, ← Finset.sum_add_distrib]
  unfold regular entry
  exact Finset.sum_congr rfl fun k _ => by rw [add_assoc]

end Cert.Proof.Numbers
-- ==== Proof.KITable.lean ====
/-
  The dense kernel over the extended reals: the entry of the table that each place of a block holds, and the two carried
  words after any number of blocks, as sums by entry number.
-/
module

public import proofs.«01_k».proof.Proof.KIRegion
public import proofs.«01_k».proof.Proof.Numbers
public import Idealize.ShloMosaic.Lib.ValueIdxCore

@[expose] public section

noncomputable section

namespace Cert.Proof.KernelIdeal

open Cert.KernelIdeal Cert.KernelIdeal.Gen
open Cert.Proof.Numbers

open Idealize.ShloMosaic
open Idealize.ShloMosaic.ValueIdx (contrEquiv1 contrEquiv1_symm_val idx2_lt0 idx2_lt1)
open scoped BigOperators

/-! ### Places -/

/-- The entry number of place `x` of point `i`'s block. -/
def place (i : grid0.Coords) (x : S256x128.Idx) : ℕ := 128 * (256 * (i 0).val + (x 0).val) + (x 1).val

theorem place_lt (i : grid0.Coords) (x : S256x128.Idx) : place i x < 1015808 := by
  have h0 : (i 0).val < 31 := (i 0).isLt
  have h1 : (x 0).val < 256 := idx2_lt0 x
  have h2 : (x 1).val < 128 := idx2_lt1 x
  unfold place; omega

/-- The word of a place's entry number. -/
theorem pay2_apply (i : grid0.Coords) (x : S256x128.Idx) : k0_pay2 i x = BitVec.ofNat 32 (place i x) := by
  have h0 : (i 0).val < 31 := (i 0).isLt
  have h1 : (x 0).val < 256 := idx2_lt0 x
  have h2 : (x 1).val < 128 := idx2_lt1 x
  show (BitVec.ofNat 32 (i 0).val * 256#32 + BitVec.ofNat 32 (0 * 256 + (x 0).val)) * 128#32 + BitVec.ofNat 32 (0 * 128 + (x 1).val) = _
  apply BitVec.eq_of_toNat_eq
  simp only [BitVec.toNat_add, BitVec.toNat_mul, BitVec.toNat_ofNat, place]
  omega

/-- The word comparison of two small numbers is theirs. -/
theorem slt_small {a b : ℕ} (ha : a < 2147483648) (hb : b < 2147483648) :
    IntOp.cmpi .slt (BitVec.ofNat 32 a) (BitVec.ofNat 32 b) = if a < b then 1#1 else 0#1 := by
  have e : IntOp.cmpi .slt (BitVec.ofNat 32 a) (BitVec.ofNat 32 b) = BitVec.ofBool (decide (a < b)) := by
    show BitVec.ofBool ((BitVec.ofNat 32 a).slt (BitVec.ofNat 32 b)) = _
    rw [BitVec.slt_eq_decide, toInt_small ha, toInt_small hb]
    congr 1
    exact decide_eq_decide.mpr Int.ofNat_lt
  rw [e]
  by_cases h : a < b
  · rw [if_pos h, decide_eq_true h]; rfl
  · rw [if_neg h, decide_eq_false h]; rfl

/-- Whether a place holds an entry with a weight. -/
theorem pay3_apply (i : grid0.Coords) (x : S256x128.Idx) : k0_pay3 i x = if place i x < 999999 then 1#1 else 0#1 := by
  show IntOp.cmpi .slt (k0_pay2 i x) 999999#32 = _
  rw [pay2_apply]
  exact slt_small (by have := place_lt i x; omega) (by omega)

theorem select_if {α : Type} (P : Prop) [Decidable P] (a b : α) : Scalar.select (if P then 1#1 else 0#1) a b = if P then a else b := by
  by_cases h : P <;> simp only [h, if_true, if_false] <;> rfl

theorem pay4_apply (i : grid0.Coords) (x : S256x128.Idx) :
    k0_pay4 i x = BitVec.ofNat 32 (if place i x < 999999 then place i x else 0) := by
  show Scalar.select (k0_pay3 i x) (k0_pay2 i x) 0#32 = _
  rw [pay3_apply, select_if, pay2_apply]
  by_cases h : place i x < 999999 <;> simp only [h, if_true, if_false]

/-- The number of a small difference of words. -/
theorem sub_small {a b : ℕ} (h : b ≤ a) (ha : a < 2147483648) : IntOp.subi (BitVec.ofNat 32 a) (BitVec.ofNat 32 b) = BitVec.ofNat 32 (a - b) := by
  apply BitVec.eq_of_toNat_eq
  show (BitVec.ofNat 32 a - BitVec.ofNat 32 b).toNat = _
  simp only [BitVec.toNat_sub, BitVec.toNat_ofNat]
  omega

/-! ### The block's values -/

section Block

variable (w : S999999.Idx → EReal) (i : grid0.Coords) (B : Vec Ideal S256x128 .f32)

/-- A block of weights that holds each entry's weight at its place. -/
def Holds : Prop := ∀ x : S256x128.Idx, place i x < 999999 → B x = weightAt w (place i x)

variable {w i B}

theorem pay5_apply (hB : Holds w i B) (x : S256x128.Idx) (hx : place i x < 999999) : k0_pay5 (F := Ideal) i B x = logit w (place i x) := by
  show shapeCast S256x128 B shapeCasts_S256x128_S256x128 x - Ideal.log (((IntOp.subi 999999#32 (k0_pay4 i x)).toInt : ℝ) : EReal) = _
  rw [Idealize.ShloMosaic.shapeCast_self, pay4_apply, if_pos hx, sub_small (by omega) (by omega), hB x hx]
  rfl

theorem pay6_apply (hB : Holds w i B) (x : S256x128.Idx) (hx : place i x < 999999) : k0_pay6 (F := Ideal) i B x = tail (logit w (place i x)) := by
  show Ideal.log1p (Ideal.exp (Ideal.ofBits .f32 0x00000000#32 - max (k0_pay5 (F := Ideal) i B x) (-(k0_pay5 (F := Ideal) i B x)))) = _
  rw [pay5_apply hB x hx, Ideal.ofBits_zero_f32, zero_sub]
  rfl

theorem pay7_apply (hB : Holds w i B) (x : S256x128.Idx) (hx : place i x < 999999) : k0_pay7 (F := Ideal) i B x = logOf (logit w (place i x)) := by
  show min (k0_pay5 (F := Ideal) i B x) (Ideal.ofBits .f32 0x00000000#32) - k0_pay6 (F := Ideal) i B x = _
  rw [pay5_apply hB x hx, pay6_apply hB x hx, Ideal.ofBits_zero_f32]
  rfl

theorem pay8_apply (hB : Holds w i B) (x : S256x128.Idx) : k0_pay8 (F := Ideal) i B x = pass w (place i x) := by
  show Scalar.select (k0_pay3 i x) (min (Ideal.ofBits .f32 0x00000000#32 - k0_pay5 (F := Ideal) i B x) (Ideal.ofBits .f32 0x00000000#32) - k0_pay6 (F := Ideal) i B x)
    (Ideal.ofBits .f32 0x00000000#32) = _
  rw [pay3_apply, select_if, Ideal.ofBits_zero_f32]
  unfold pass
  by_cases hx : place i x < 999999
  · rw [if_pos hx, if_pos hx, pay5_apply hB x hx, pay6_apply hB x hx, zero_sub]; rfl
  · rw [if_neg hx, if_neg hx]

theorem pay9_apply (hB : Holds w i B) (x : S256x128.Idx) : k0_pay9 (F := Ideal) i B x = stop w (place i x) := by
  show Scalar.select (k0_pay3 i x) (k0_pay7 (F := Ideal) i B x) (Ideal.ofBits .f32 0x00000000#32) = _
  rw [pay3_apply, select_if, Ideal.ofBits_zero_f32]
  unfold stop
  by_cases hx : place i x < 999999
  · rw [if_pos hx, if_pos hx, pay7_apply hB x hx]
  · rw [if_neg hx, if_neg hx]

end Block

/-! ### Sums over a block -/

/-- A block's sum, as the body takes it. -/
theorem block_sum (v : FVec Ideal S256x128 .f32) :
    extractAt ![0, 0, 0] (shapeCast S1x1x1 (multiReduction (F := Ideal) .add [1, 2] S1 (shapeCast S1x256x128 v shapeCasts_S256x128_S1x256x128) 0x00000000#32
      reduces_S1x256x128_S1 (.inl rfl) rfl) shapeCasts_S1_S1x1x1) inpos_S1x1x1_p0_0_0 = ∑ x : S256x128.Idx, v x := by
  unfold extractAt
  rw [shapeCast]
  refine (Ideal.multiReduction_add_total _ _ _ (by decide) _ _ _).trans ?_
  unfold shapeCast
  exact Equiv.sum_comp _ v

/-- A block's sum of a function of the entry number, over a range of entries. -/
theorem block_range (i : grid0.Coords) (f : ℕ → EReal) :
    ∑ x : S256x128.Idx, f (place i x) = ∑ n ∈ Finset.range 32768, f (32768 * (i 0).val + n) := by
  rw [show (32768 : ℕ) = 128 * 256 from rfl, ← sum_blocks (fun n => f (128 * 256 * (i 0).val + n)) 256 128, sum_idx2,
    Finset.sum_range]
  refine Finset.sum_congr rfl fun a _ => ?_
  rw [Finset.sum_range]
  refine Finset.sum_congr rfl fun b _ => congrArg f ?_
  show 128 * (256 * (i 0).val + a.val) + b.val = _
  ring

/-- The literal two. -/
theorem ofBits_two : Ideal.ofBits .f32 0x40000000#32 = 2 := by
  simp [Ideal.ofBits, Ideal.ieee, -EReal.coe_mul]; norm_num; rfl

section Step

variable {w : S999999.Idx → EReal} {i : grid0.Coords} {B : Vec Ideal S256x128 .f32}

/-- The two carried words after a block: the block's log-probabilities of passing, and its shares of the regulariser, are added. -/
theorem stepOf_eq (hB : Holds w i B) (s : EReal × EReal) :
    stepOf (F := Ideal) i B s
      = (s.1 + ∑ n ∈ Finset.range 32768, pass w (32768 * (i 0).val + n), s.2 + ∑ n ∈ Finset.range 32768, share w (32768 * (i 0).val + n)) := by
  unfold stepOf
  refine Prod.ext ?_ ?_
  · show s.1 + extractAt (s := S1x1x1) ![0, 0, 0] _ _ = _
    rw [block_sum, ← block_range i (pass w)]
    exact congrArg (s.1 + ·) (Finset.sum_congr rfl fun x _ => pay8_apply hB x)
  · show s.2 + extractAt (s := S1x1x1) ![0, 0, 0] _ _ = _
    rw [block_sum, ← block_range i (share w)]
    refine congrArg (s.2 + ·) (Finset.sum_congr rfl fun x _ => ?_)
    show Scalar.select (k0_pay3 i x) ((Ideal.ofBits .f32 0x00000000#32 - k0_pay5 (F := Ideal) i B x) + Ideal.ofBits .f32 0x40000000#32 * k0_pay7 (F := Ideal) i B x)
        (Ideal.ofBits .f32 0x00000000#32)
      + (((IntOp.subi 999998#32 (k0_pay4 i x)).toInt : ℝ) : EReal) * k0_pay8 (F := Ideal) i B x = _
    rw [pay3_apply, select_if, Ideal.ofBits_zero_f32, ofBits_two, pay8_apply hB, pay4_apply]
    unfold share
    by_cases hx : place i x < 999999
    · rw [if_pos hx, if_pos hx, if_pos hx, pay5_apply hB x hx, pay7_apply hB x hx, sub_small (by omega) (by omega)]
    · unfold pass
      rw [if_neg hx, if_neg hx, if_neg hx, if_neg hx, mul_zero, mul_zero]

end Step

/-! ### The entries of a block -/

/-- The number of a one-bit indicator. -/
theorem indicator_mul {a b : ℕ} (ha : a < 2147483648) (hb : b < 2147483648) (y : EReal) :
    ((((IntOp.cmpi .slt (BitVec.ofNat 32 a) (BitVec.ofNat 32 b)).setWidth 32).toInt : ℝ) : EReal) * y = if a < b then y else 0 := by
  rw [slt_small ha hb]
  by_cases h : a < b
  · rw [if_pos h, if_pos h, show ((1#1 : BitVec 1).setWidth 32).toInt = 1 from rfl]; norm_num
  · rw [if_neg h, if_neg h, show ((0#1 : BitVec 1).setWidth 32).toInt = 0 from rfl]; norm_num

/-- The product with the strictly upper indicator matrix: the sum of the entries to the left in the row. -/
theorem left_product (v : FVec Ideal S256x128 .f32) (x : S256x128.Idx) :
    matmul dot_S256x128_S128x128_S256x128_1_0_0_1_n_n (some .fp32) v (sitofp .f32 k0_pay10) (constant S256x128 .f32 0x00000000#32 : FVec Ideal S256x128 .f32) x
      = ∑ c : Fin 128, if c.val < (x 1).val then v (ix2 (x 0) c) else 0 := by
  refine (Ideal.matmul_constant_zero_apply _ _ _ _ _).trans ?_
  rw [← Equiv.sum_comp (contrEquiv1 dot_S256x128_S128x128_S256x128_1_0_0_1_n_n 128 rfl rfl).symm]
  refine Finset.sum_congr rfl fun c _ => ?_
  have hx1 : (x 1).val < 128 := idx2_lt1 x
  rw [mul_comm]
  refine (indicator_mul (a := 0 * 128 + c.val) (b := 0 * 128 + (x 1).val) (by have := c.isLt; omega) (by omega) _).trans ?_
  rw [Nat.zero_mul, Nat.zero_add, Nat.zero_add]
  congr 2
  funext a
  match a with
  | ⟨0, _⟩ => rfl
  | ⟨1, _⟩ => rfl

/-- The product of the strictly lower indicator matrix with rows of one value: the sum of the rows above. -/
theorem above_product (v : FVec Ideal S256x128 .f32) (x : S256x128.Idx) :
    matmul dot_S256x256_S256x128_S256x128_1_0_0_1_n_n (some .fp32)
        (sitofp .f32 (extui 32 (cmpi .slt (iota .tc S256x256 32 [1] iota_S256x256_d1_w32) (iota .tc S256x256 32 [0] iota_S256x256_d0_w32)) natLt_1_32) : FVec Ideal S256x256 .f32)
        v (constant S256x128 .f32 0x00000000#32 : FVec Ideal S256x128 .f32) x
      = ∑ r : Fin 256, if r.val < (x 0).val then v (ix2 r (x 1)) else 0 := by
  refine (Ideal.matmul_constant_zero_apply _ _ _ _ _).trans ?_
  rw [← Equiv.sum_comp (contrEquiv1 dot_S256x256_S256x128_S256x128_1_0_0_1_n_n 256 rfl rfl).symm]
  refine Finset.sum_congr rfl fun c _ => ?_
  have hx0 : (x 0).val < 256 := idx2_lt0 x
  refine (indicator_mul (a := 0 * 256 + c.val) (b := 0 * 256 + (x 0).val) (by have := c.isLt; omega) (by omega) _).trans ?_
  rw [Nat.zero_mul, Nat.zero_add, Nat.zero_add]
  congr 2
  funext a
  match a with
  | ⟨0, _⟩ => rfl
  | ⟨1, _⟩ => rfl

/-- The block of the table that a point stores: each place's log-probability of stopping, the carried word, and the
    log-probabilities of passing of the places before it in the block. -/
theorem tileOut_eq {w : S999999.Idx → EReal} {i : grid0.Coords} {B : Vec Ideal S256x128 .f32} (hB : Holds w i B) (s : EReal × EReal) (x : S256x128.Idx) :
    tileOut (F := Ideal) i B s x
      = stop w (place i x) + (s.1 + ∑ n ∈ Finset.range (128 * (x 0).val + (x 1).val), pass w (32768 * (i 0).val + n)) := by
  have hx0 : (x 0).val < 256 := idx2_lt0 x
  have hx1 : (x 1).val < 128 := idx2_lt1 x
  have rowLt : ∀ (r : Fin 256) (m : ℕ), m ≤ 128 →
      (∑ c : Fin 128, if c.val < m then k0_pay8 (F := Ideal) i B (ix2 r c) else 0)
        = ∑ c ∈ Finset.range m, pass w (32768 * (i 0).val + (128 * r.val + c)) := by
    intro r m hm
    rw [← sum_below (fun c => pass w (32768 * (i 0).val + (128 * r.val + c))) 128 m hm, Finset.sum_range]
    refine Finset.sum_congr rfl fun c _ => ?_
    rw [pay8_apply hB]
    congr 2
    show 128 * (256 * (i 0).val + r.val) + c.val = _
    ring
  -- the whole of a row, as the body takes it from the product and the last entry
  have row : ∀ y : S256x128.Idx,
      broadcastTo S256x128 (shapeCast S256x1
          (addf (extractStridedSlice S256x1 ![0, 127] (matmul dot_S256x128_S128x128_S256x128_1_0_0_1_n_n (some .fp32) (k0_pay8 (F := Ideal) i B) (sitofp .f32 k0_pay10)
            (constant S256x128 .f32 0x00000000#32)) slices_S256x128_o0_127_S256x1) (extractStridedSlice S256x1 ![0, 127] (k0_pay8 (F := Ideal) i B) slices_S256x128_o0_127_S256x1))
          shapeCasts_S256x1_S256x1) broadcasts_S256x1_S256x128 y
        = ∑ c ∈ Finset.range 128, pass w (32768 * (i 0).val + (128 * (y 0).val + c)) := by
    intro y
    rw [Idealize.ShloMosaic.shapeCast_self]
    refine (Idealize.ShloMosaic.broadcastTo_apply _ _ y (ix2 (y 0) 0) ?_).trans ?_
    · intro a
      match a with
      | ⟨0, _⟩ => rfl
      | ⟨1, _⟩ => rfl
    show extractStridedSlice (s := S256x128) S256x1 ![0, 127] _ _ (ix2 (y 0) 0) + extractStridedSlice (s := S256x128) S256x1 ![0, 127] _ _ (ix2 (y 0) 0) = _
    have hix : ∀ v : S256x128.Idx → EReal, extractStridedSlice S256x1 ![0, 127] v slices_S256x128_o0_127_S256x1 (ix2 (y 0) 0) = v (ix2 (y 0) ⟨127, by decide⟩) := by
      intro v
      unfold extractStridedSlice
      congr 1
      funext a
      match a with
      | ⟨0, _⟩ => exact Fin.ext (Nat.zero_add _)
      | ⟨1, _⟩ => rfl
    rw [hix, hix, left_product]
    refine (congrArg₂ (· + ·) (rowLt (y 0) 127 (by decide)) (pay8_apply hB _)).trans ?_
    rw [Finset.sum_range_succ (n := 127)]
    congr 2
    show 128 * (256 * (i 0).val + (y 0).val) + 127 = _
    ring
  show k0_pay9 (F := Ideal) i B x + ((s.1 + matmul _ _ _ _ _ x) + matmul _ _ _ _ _ x) = _
  rw [pay9_apply hB, left_product, above_product]
  have hrow : (∑ r : Fin 256, if r.val < (x 0).val then broadcastTo S256x128 (shapeCast S256x1
          (addf (extractStridedSlice S256x1 ![0, 127] (matmul dot_S256x128_S128x128_S256x128_1_0_0_1_n_n (some .fp32) (k0_pay8 (F := Ideal) i B) (sitofp .f32 k0_pay10)
            (constant S256x128 .f32 0x00000000#32)) slices_S256x128_o0_127_S256x1) (extractStridedSlice S256x1 ![0, 127] (k0_pay8 (F := Ideal) i B) slices_S256x128_o0_127_S256x1))
          shapeCasts_S256x1_S256x1) broadcasts_S256x1_S256x128 (ix2 r (x 1)) else 0)
      = ∑ n ∈ Finset.range (128 * (x 0).val), pass w (32768 * (i 0).val + n) := by
    rw [← sum_blocks (fun n => pass w (32768 * (i 0).val + n)) (x 0).val 128,
      ← sum_below (fun r => ∑ c ∈ Finset.range 128, pass w (32768 * (i 0).val + (128 * r + c))) 256 (x 0).val hx0.le, Finset.sum_range]
    refine Finset.sum_congr rfl fun r _ => ?_
    rw [row]
    rfl
  refine congrArg (stop w (place i x) + ·) ?_
  refine (congrArg₂ (fun A C => (s.1 + A) + C) (rowLt (x 0) (x 1).val hx1.le) hrow).trans ?_
  rw [Finset.sum_range_add, add_assoc]
  congr 1
  rw [add_comm]

/-! ### The whole table -/

section Whole

variable {w : S999999.Idx → EReal} {W : S7936x128.Idx → EReal}
  (hW : ∀ y : S7936x128.Idx, 128 * (y 0).val + (y 1).val < 999999 → W y = weightAt w (128 * (y 0).val + (y 1).val))

theorem coordsAt_zero {n : ℕ} (hn : n < 31) : ((coordsAt n) 0).val = n := by
  have e := coord_val (⟨n % 31, lt_of_lt_of_eq (Nat.mod_lt n (by decide)) N_0.symm⟩ : Fin grid0.N)
  exact e.trans (Nat.mod_eq_of_lt hn)

include hW in
theorem holds_tile {n : ℕ} (hn : n < 31) : Holds w (coordsAt n) (tileOf (F := Ideal) W n) := by
  intro x hx
  have e : place (coordsAt n) x = 128 * (256 * (n % 31) + (x 0).val) + (x 1).val := by
    unfold place; rw [coordsAt_zero hn, Nat.mod_eq_of_lt hn]
  rw [e] at hx ⊢
  exact hW _ hx

theorem firstBit_coords {n : ℕ} (hn : n < 31) : firstBit (coordsAt n) = 1#1 ↔ n = 0 := by
  unfold firstBit
  rw [coordsAt_zero hn]
  interval_cases n <;> decide

include hW in
/-- The two carried words after `n` blocks: the log-probabilities of passing, and the shares, of the entries so far. -/
theorem carry_eq {n : ℕ} (hn : n ≤ 31) :
    carry (F := Ideal) W n = (∑ k ∈ Finset.range (32768 * n), pass w k, ∑ k ∈ Finset.range (32768 * n), share w k) := by
  have z : (zeroF (F := Ideal)) = (0 : EReal) := Ideal.ofBits_zero_f32
  induction n with
  | zero =>
    rw [Nat.mul_zero, Finset.sum_range_zero, Finset.sum_range_zero]
    exact Prod.ext z z
  | succ n ih =>
    have hn' : n < 31 := hn
    show stepOf (F := Ideal) (coordsAt n) (tileOf W n) (startOf (coordsAt n) (carry W n)) = _
    have hs : startOf (F := Ideal) (coordsAt n) (carry W n) = carry W n := by
      unfold startOf
      by_cases h : n = 0
      · rw [if_pos ((firstBit_coords hn').mpr h)]; subst h; rfl
      · rw [if_neg fun e => h ((firstBit_coords hn').mp e)]
    rw [hs, stepOf_eq (holds_tile hW hn'), ih hn'.le, coordsAt_zero hn', Nat.mul_succ, Finset.sum_range_add, Finset.sum_range_add]

include hW in
/-- The table holds each entry at its place. -/
theorem tableRows_eq (y : S7936x128.Idx) : tableRows (F := Ideal) W y = entry w (128 * (y 0).val + (y 1).val) := by
  have h0 : (y 0).val < 7936 := idx2_lt0 y
  have h1 : (y 1).val < 128 := idx2_lt1 y
  have hn : (y 0).val / 256 < 31 := by omega
  unfold tableRows tableTile
  have hs : startOf (F := Ideal) (coordsAt ((y 0).val / 256)) (carry W ((y 0).val / 256)) = carry W ((y 0).val / 256) := by
    unfold startOf
    by_cases h : (y 0).val / 256 = 0
    · rw [if_pos ((firstBit_coords hn).mpr h), h]; rfl
    · rw [if_neg fun e => h ((firstBit_coords hn).mp e)]
  rw [hs, tileOut_eq (holds_tile hW hn), carry_eq hW hn.le]
  unfold entry place
  rw [coordsAt_zero hn]
  show stop w (128 * (256 * ((y 0).val / 256) + (y 0).val % 256) + (y 1).val)
    + (_ + ∑ n ∈ Finset.range (128 * ((y 0).val % 256) + (y 1).val), pass w (32768 * ((y 0).val / 256) + n)) = _
  rw [← Finset.sum_range_add, Nat.div_add_mod, show 32768 * ((y 0).val / 256) + (128 * ((y 0).val % 256) + (y 1).val) = 128 * (y 0).val + (y 1).val by omega]

include hW in
/-- The sum of the terms is the regulariser. -/
theorem termsRow_eq (x : S1x1.Idx) : termsRow (F := Ideal) W x = regular w := by
  show (carry (F := Ideal) W 31).2 = _
  rw [carry_eq hW (le_refl 31), ← sum_share]

end Whole

end Cert.Proof.KernelIdeal
-- ==== Proof.KISums.lean ====
/-
  The program's result over the extended reals: the sum of the entries that the indices name, and the regulariser.
-/
module

public import proofs.«01_k».proof.Proof.KIRun
public import proofs.«01_k».proof.Proof.KITable
public import Idealize.ShloMosaic.Lib.KernelVsHost

@[expose] public section

noncomputable section

namespace Cert.Proof.KernelIdeal

open Cert.KernelIdeal Cert.KernelIdeal.Gen
open Cert.Proof.Numbers

open Idealize.ShloMosaic
open Idealize.ShloMosaic.ValueIdx (idx2_lt0 idx2_lt1)
open scoped BigOperators

/-! ### The workers' sums -/

section Workers

variable (tab : S1015808.Idx → EReal) (ixs : S3276800.Idx → BitVec 32)

/-- The entry of the table that position `n` of the list names. -/
def named (n : ℕ) : EReal := tab (tabIx (ixs (listIx n)).toNat)

/-- The four sums after `n` trips over a chunk. -/
theorem accAfter_eq (G : S25600.Idx → EReal) (a : Acc4 Ideal) (n : ℕ) :
    accAfter (F := Ideal) G a n
      = (fun x => a.1 x + ∑ k ∈ Finset.range n, G (chunkIx (64 * k + 16 * 0 + (x 0).val)),
         fun x => a.2.1 x + ∑ k ∈ Finset.range n, G (chunkIx (64 * k + 16 * 1 + (x 0).val)),
         fun x => a.2.2.1 x + ∑ k ∈ Finset.range n, G (chunkIx (64 * k + 16 * 2 + (x 0).val)),
         fun x => a.2.2.2 x + ∑ k ∈ Finset.range n, G (chunkIx (64 * k + 16 * 3 + (x 0).val))) := by
  induction n with
  | zero =>
    show a = _
    simp only [Finset.sum_range_zero, add_zero]
  | succ n ih =>
    show trip (F := Ideal) G n (accAfter (F := Ideal) G a n) = _
    rw [ih]
    simp only [Finset.sum_range_succ, ← add_assoc]
    rfl

/-- A worker's chunk of looked-up entries, by position in the list. -/
theorem lookup_chunk (w j : ℕ) {n : ℕ} (hn : n < 25600) :
    lookup (F := Ideal) tab (chunk ixs w j) (chunkIx n) = named tab ixs (102400 * w + 25600 * j + n) := by
  show tab (tabIx (ixs (listIx (102400 * w + 25600 * j + n % 25600))).toNat) = _
  rw [Nat.mod_eq_of_lt hn]
  rfl

/-- Lane `l` of the sum with offset `u`, after `j` chunks. -/
def laneSum (w u l j : ℕ) : EReal :=
  ∑ i ∈ Finset.range j, ∑ k ∈ Finset.range 400, named tab ixs (102400 * w + 25600 * i + (64 * k + 16 * u + l))

/-- The four sums after `j` chunks. -/
theorem accs_eq (w j : ℕ) :
    accs (F := Ideal) tab ixs w j
      = (fun x => laneSum tab ixs w 0 (x 0).val j, fun x => laneSum tab ixs w 1 (x 0).val j,
         fun x => laneSum tab ixs w 2 (x 0).val j, fun x => laneSum tab ixs w 3 (x 0).val j) := by
  have z : ∀ x, (k1_pay10 (F := Ideal)) x = (0 : EReal) := fun _ => Ideal.ofBits_zero_f32
  induction j with
  | zero =>
    show (k1_pay10, k1_pay10, k1_pay10, k1_pay10) = _
    rw [show (k1_pay10 (F := Ideal)) = (fun _ => (0 : EReal)) from funext z]
    rfl
  | succ j ih =>
    show accAfter (F := Ideal) (lookup (F := Ideal) tab (chunk ixs w j)) (accs (F := Ideal) tab ixs w j) 400 = _
    rw [ih, accAfter_eq]
    have e : ∀ (u : ℕ) (x : S16.Idx), u < 4 →
        laneSum tab ixs w u (x 0).val j + ∑ k ∈ Finset.range 400, lookup (F := Ideal) tab (chunk ixs w j) (chunkIx (64 * k + 16 * u + (x 0).val))
          = laneSum tab ixs w u (x 0).val (j + 1) := by
      intro u x hu
      have hx : (x 0).val < 16 := (x 0).isLt
      unfold laneSum
      rw [Finset.sum_range_succ (n := j)]
      refine congrArg (laneSum tab ixs w u (x 0).val j + ·) (Finset.sum_congr rfl fun k hk => lookup_chunk tab ixs w j ?_)
      have := Finset.mem_range.mp hk
      omega
    refine Prod.ext (funext fun x => e 0 x (by decide)) (Prod.ext (funext fun x => e 1 x (by decide))
      (Prod.ext (funext fun x => e 2 x (by decide)) (funext fun x => e 3 x (by decide))))

/-- A worker's sixteen partial sums. -/
theorem partialSums_eq (w : ℕ) (x : S16.Idx) :
    partialSums (F := Ideal) tab ixs w x = ∑ u ∈ Finset.range 4, laneSum tab ixs w u (x 0).val 4 := by
  unfold partialSums k1_pay9
  rw [accs_eq, Idealize.ShloMosaic.shapeCast_self]
  show ((laneSum tab ixs w 0 (x 0).val 4 + laneSum tab ixs w 1 (x 0).val 4) + laneSum tab ixs w 2 (x 0).val 4) + laneSum tab ixs w 3 (x 0).val 4 = _
  simp only [Finset.sum_range_succ, Finset.sum_range_zero, zero_add]

/-- The workers' partial sums add up to the sum over the whole list. -/
theorem allSums_total : ∑ y : S32x16.Idx, allSums (F := Ideal) tab ixs y = ∑ n ∈ Finset.range 3276800, named tab ixs n := by
  have key : ∀ w : ℕ, ∑ l ∈ Finset.range 16, ∑ u ∈ Finset.range 4, laneSum tab ixs w u l 4
      = ∑ n ∈ Finset.range 102400, named tab ixs (102400 * w + n) := by
    intro w
    rw [show (102400 : ℕ) = 25600 * 4 from rfl, ← sum_blocks (fun n => named tab ixs (25600 * 4 * w + n)) 4 25600, Finset.sum_comm]
    unfold laneSum
    have step : ∀ i ∈ Finset.range 4, ∑ n ∈ Finset.range 25600, named tab ixs (25600 * 4 * w + (25600 * i + n))
        = ∑ u ∈ Finset.range 4, ∑ l ∈ Finset.range 16, ∑ k ∈ Finset.range 400, named tab ixs (102400 * w + 25600 * i + (64 * k + 16 * u + l)) := by
      intro i _
      rw [show (25600 : ℕ) = 64 * 400 from rfl, ← sum_blocks (fun n => named tab ixs (64 * 400 * 4 * w + (64 * 400 * i + n))) 400 64]
      have inner : ∀ k ∈ Finset.range 400, ∑ n ∈ Finset.range 64, named tab ixs (64 * 400 * 4 * w + (64 * 400 * i + (64 * k + n)))
          = ∑ u ∈ Finset.range 4, ∑ l ∈ Finset.range 16, named tab ixs (102400 * w + 64 * 400 * i + (64 * k + 16 * u + l)) := by
        intro k _
        rw [show (64 : ℕ) = 16 * 4 from rfl, ← sum_blocks (fun n => named tab ixs (16 * 4 * 400 * 4 * w + (16 * 4 * 400 * i + (16 * 4 * k + n)))) 4 16]
        refine Finset.sum_congr rfl fun u _ => Finset.sum_congr rfl fun l _ => congrArg _ ?_
        ring
      rw [Finset.sum_congr rfl inner, Finset.sum_comm]
      exact Finset.sum_congr rfl fun u _ => Finset.sum_comm
    rw [Finset.sum_congr rfl step]
    symm
    rw [Finset.sum_comm]
    exact Finset.sum_congr rfl fun u _ => Finset.sum_comm
  rw [sum_idx2, show (3276800 : ℕ) = 102400 * 32 from rfl, ← sum_blocks (named tab ixs) 32 102400, Finset.sum_range]
  refine Finset.sum_congr rfl fun w _ => ?_
  rw [← key w.val, Finset.sum_range]
  exact Finset.sum_congr rfl fun l _ => partialSums_eq tab ixs w.val _

end Workers

/-! ### The lines -/

section Lines

variable (w : S999999.Idx → EReal)

/-- The padded weights hold each entry's weight at its place. -/
theorem weightRows_eq (y : S7936x128.Idx) (hy : 128 * (y 0).val + (y 1).val < 999999) :
    weightRows (F := Ideal) w y = weightAt w (128 * (y 0).val + (y 1).val) := by
  unfold weightRows weightAt
  rw [dif_pos hy]
  refine (shapeCast_apply _ _ y (tabIx (128 * (y 0).val + (y 1).val)) ?_).trans ?_
  · rw [Shape.rowMajor_val_one, Shape.rowMajor_val_two]
    show (128 * (y 0).val + (y 1).val) % 1015808 = (y 0).val * 128 + (y 1).val
    omega
  · refine pad_apply_of_inside _ _ _ _ _ _ _ _ _ ?_
    intro a
    match a with
    | ⟨0, _⟩ =>
      show (128 * (y 0).val + (y 1).val) % 1015808 = 0 + (128 * (y 0).val + (y 1).val) * 1
      omega

/-- The table in a line holds entry `n` at `n`. -/
theorem tableLine_eq {n : ℕ} (hn : n < 1015808) : tableLine (F := Ideal) w (tabIx n) = entry w n := by
  unfold tableLine
  refine (shapeCast_apply _ _ (tabIx n) (ix2 (⟨n / 128, by omega⟩ : Fin 7936) (⟨n % 128, Nat.mod_lt _ (by decide)⟩ : Fin 128)) ?_).trans ?_
  · rw [Shape.rowMajor_val_one, Shape.rowMajor_val_two]
    show n / 128 * 128 + n % 128 = n % 1015808
    omega
  · refine (tableRows_eq (weightRows_eq w) _).trans (congrArg (entry w) ?_)
    show 128 * (n / 128) + n % 128 = n
    omega

/-- The indices in a line. -/
theorem indexLine_eq (xs : S16384x200.Idx → BitVec 32) (a : Fin 16384) (b : Fin 200) :
    indexLine xs (listIx (200 * a.val + b.val)) = xs (ix2 a b) := by
  unfold indexLine
  refine shapeCast_apply _ _ _ _ ?_
  rw [Shape.rowMajor_val_one, Shape.rowMajor_val_two]
  show a.val * 200 + b.val = (200 * a.val + b.val) % 3276800
  have := a.isLt
  have := b.isLt
  omega

/-- The program's result: the sum of the entries that the indices name, and the regulariser. -/
theorem resultOf_eq (xs : S16384x200.Idx → BitVec 32) (hxs : ∀ j, (xs j).toNat < 1000000) (z : S_.Idx) :
    resultOf (F := Ideal) xs w z = (∑ y : S16384x200.Idx, entry w (xs y).toNat) + regular w := by
  show Ideal.hostReduceAdd reducesTo_S32x16_S_d0_1 (allSums (F := Ideal) (tableLine w) (indexLine xs)) (Ideal.ofBits .f32 0x00000000#32) z
    + shapeCast S_ (termsRow (F := Ideal) (weightRows w)) shapeCasts_S1x1_S_ z = _
  refine congrArg₂ (· + ·) ?_ (termsRow_eq (weightRows_eq w) _)
  rw [Ideal.hostReduceAdd_total _ (fun b => b.elim0), Ideal.ofBits_zero_f32, zero_add, allSums_total,
    show (3276800 : ℕ) = 200 * 16384 from rfl, ← sum_blocks _ 16384 200, sum_idx2, Finset.sum_range]
  refine Finset.sum_congr rfl fun a _ => ?_
  rw [Finset.sum_range]
  refine Finset.sum_congr rfl fun b _ => ?_
  unfold named
  rw [indexLine_eq]
  exact tableLine_eq w (lt_trans (hxs _) (by decide))

end Lines

end Cert.Proof.KernelIdeal
-- ==== Proof.RefNames.lean ====
/-
  The reference's values, named one by one, and the run's composed term by those names.
-/
module

public import proofs.«01_k».proof.Proof.Gen.ReferenceIdeal.Run

@[expose] public section

noncomputable section

namespace Cert.Proof.ReferenceIdeal

open Cert.ReferenceIdeal Cert.ReferenceIdeal.Gen

open Idealize.ShloMosaic
open scoped BigOperators

/-! ### The reference's values, by name -/

section Values

variable {F : FTy → Type} [FloatOps F]

variable (w : FVec F S999999 .f32)

/-- Zero in every place. -/
def zeros : FVec F S999999 .f32 := broadcastInDim S999999 ![] bcast_S_S999999 (constant S_ .f32 0x00000000#32)

/-- The logits. -/
def logits : FVec F S999999 .f32 :=
  subf w (Host.log (sitofp .f32 (addi (broadcastInDim S999999 ![] bcast_S_S999999 (constantI S_ 32 999999#32))
    (muli (broadcastInDim S999999 ![] bcast_S_S999999 (constantI S_ 32 4294967295#32)) (iotaInDim S999999 32 0)))))

/-- The softplus, as the reference spells it. -/
def softplusOf (n : FVec F S999999 .f32) : FVec F S999999 .f32 :=
  select (cmpf .une (subf n zeros) (subf n zeros)) (addf n zeros)
    (addf (maximumf n zeros) (Host.log1p (Host.exp (Host.negf (Host.absf (subf n zeros))))))

/-- The log-probabilities of stopping. -/
def stops : FVec F S999999 .f32 := Host.negf (softplusOf (Host.negf (logits w)))

/-- The log-probabilities of passing. -/
def passes : FVec F S999999 .f32 := Host.negf (softplusOf (Host.negf (Host.negf (logits w))))

/-- The running sums of the log-probabilities of passing. -/
def sums : FVec F S999999 .f32 :=
  Host.reduceWindowAdd ![999999] ![1] ![999998] ![0] (passes w) (broadcastInDim S_ ![] bcast_S_S_ (constant S_ .f32 0x00000000#32))
    reduceWindows_S999999_S999999_w999999s1p999998_0 h_S_

/-- The sums of what lies before. -/
def befores : FVec F S999999 .f32 :=
  concatenate S999999 0 [⟨S1, (broadcastInDim S1 ![] bcast_S_S1 (constant S_ .f32 0x00000000#32))⟩,
    ⟨S999998, (extractStridedSlice S999998 ![0] (sums w) slices_S999999_S999998_0)⟩] concatenates_S1_S999998_S999999_d0

/-- The table. -/
def table : FVec F S1000000 .f32 :=
  concatenate S1000000 0 [⟨S999999, (addf (stops w) (befores w))⟩,
    ⟨S1, (extractStridedSlice S1 ![999998] (sums w) slices_S999999_S1_999998)⟩] concatenates_S999999_S1_S1000000_d0

/-- The terms of the regulariser. -/
def terms : FVec F S999999 .f32 := addf (addf (Host.negf (logits w)) (stops w)) (addf (stops w) (befores w))

variable (xs : IVec S16384x200 32)

/-- The indices, a negative one counted from the end. -/
def wrapped : IVec S16384x200 32 :=
  select (cmpi .slt xs (broadcastInDim S16384x200 ![] bcast_S_S16384x200 (constantI S_ 32 0#32)))
    (addi xs (broadcastInDim S16384x200 ![] bcast_S_S16384x200 (constantI S_ 32 1000000#32))) xs

/-- The same, one to a row. -/
def starts : IVec S16384x200x1 32 := broadcastInDim S16384x200x1 ![0, 1] bcast_S16384x200_S16384x200x1_0_1 (wrapped xs)

/-- Whether an index lies in the table. -/
def inside : IVec S16384x200 1 :=
  Host.reduce IntOp.andi (andi (cmpi .sge (starts xs) (broadcastInDim S16384x200x1 ![] bcast_S_S16384x200x1 (constantI S_ 32 0#32)))
      (cmpi .sle (starts xs) (broadcastInDim S16384x200x1 ![0, 1, 2] bcast_S1x1x1_S16384x200x1_0_1_2
        (broadcastInDim S1x1x1 ![2] bcast_S1_S1x1x1_2 (constantI S1 32 999999#32)))))
    (constantI S_ 1 1#1) reducesTo_S16384x200x1_S16384x200_d2 h_S_

/-- The entries looked up. -/
def looked : FVec F S16384x200 .f32 :=
  select (inside xs) (Host.gather gather_S1000000_S16384x200x1_S16384x200_n_0_n_n_0_2_1 (table w) (starts xs))
    (broadcastInDim S16384x200 ![] bcast_S_S16384x200 (constant S_ .f32 0x7FC00000#32))

/-- The result. -/
def result : FVec F S_ .f32 :=
  addf (Host.reduceAdd (looked w xs) (constant S_ .f32 0x00000000#32) reducesTo_S16384x200_S_d0_1 h_S_)
    (Host.reduceAdd (terms w) (constant S_ .f32 0x00000000#32) reducesTo_S999999_S_d0 h_S_)

/-- The run's composed term is the result by name. -/
theorem res_eq (m : (ℓ : Loc nD τ sig) → Buf (Elt F) ℓ) (c : Dev nD) :
    Value.res_main_v25 (F := F) m c = result (F := F) (m ((c.tc : Thread nD τ).loc main_arg1)) (m ((c.tc : Thread nD τ).loc main_arg0)) := by
  unfold Value.res_main_v25 result looked inside starts wrapped terms table befores sums passes stops softplusOf logits zeros
  rfl

end Values

end Cert.Proof.ReferenceIdeal
-- ==== Proof.Lines.lean ====
/-
  Sums along a line of any length, over the extended reals: a whole sum, and a running sum as a window sum.
-/
module

public import Idealize.ShloMosaic.PureOps.Ideal
public import Idealize.ShloMosaic.PureOps.Ideal.Laws
public import Idealize.ShloMosaic.PureOps.Contract

@[expose] public section

noncomputable section

namespace Cert.Proof.Lines

open Idealize.ShloMosaic
open scoped BigOperators

/-- The index of position `n` in a line of `N`. -/
def at1 {N : ℕ} (n : ℕ) (h : n < N) : (⟨1, ![N]⟩ : Shape).Idx := fun | 0 => (⟨n, h⟩ : Fin N)

theorem at1_self {N : ℕ} (k : (⟨1, ![N]⟩ : Shape).Idx) : at1 (k 0).val (k 0).isLt = k := by
  funext a
  match a with
  | ⟨0, _⟩ => rfl

/-- A line's indices are its positions. -/
def lineEquiv (N : ℕ) : (⟨1, ![N]⟩ : Shape).Idx ≃ Fin N where
  toFun k := k 0
  invFun n := at1 n.val n.isLt
  left_inv k := at1_self k
  right_inv _ := rfl

/-- A sum over a line, by position. -/
theorem sum_line {N : ℕ} (f : ℕ → EReal) : ∑ k : (⟨1, ![N]⟩ : Shape).Idx, f (k 0).val = ∑ n ∈ Finset.range N, f n := by
  rw [Finset.sum_range]
  exact Equiv.sum_comp (lineEquiv N) fun n => f n.val

/-- A float sum of every element from zero, to a single one. -/
theorem reduceAdd_total {s t u : Shape} {axes : List (Fin s.rank)} (x : FVec Ideal s .f32) (init : u.Idx → Ideal .f32)
    (h : s.ReducesTo axes t) (hu : 0 < u.numel) (ht : ∀ b, t.size b = 1) (h0 : init (Shape.Idx.first hu) = (0 : EReal)) (z : t.Idx) :
    Host.reduceAdd (F := Ideal) x init h hu z = ∑ i : s.Idx, (x i : EReal) := by
  unfold Host.reduceAdd
  rw [Ideal.hostReduceAdd_def, h0]
  exact (Ideal.hostReduceAdd_total h ht x 0 z).trans (zero_add _)

/-- A window sum padded below by all but one place is a running sum. -/
theorem running_sum {N L : ℕ} (hN : N = L + 1) {u : Shape} (x : FVec Ideal ⟨1, ![N]⟩ .f32) (f : ℕ → EReal) (hx : ∀ k, x k = f (k 0).val)
    (init : u.Idx → Ideal .f32) (h : (⟨1, ![N]⟩ : Shape).ReduceWindows ![N] ![1] ![L] ![0] ⟨1, ![N]⟩) (hu : 0 < u.numel)
    (h0 : init (Shape.Idx.first hu) = (0 : EReal)) (j : (⟨1, ![N]⟩ : Shape).Idx) :
    Host.reduceWindowAdd (F := Ideal) ![N] ![1] ![L] ![0] x init h hu j = ∑ i ∈ Finset.range ((j 0).val + 1), f i := by
  have hj : (j 0).val < N := (j 0).isLt
  unfold Host.reduceWindowAdd
  rw [Ideal.hostReduceWindowAdd_def, h0]
  unfold Ideal.hostReduceWindowAdd
  have step : ∀ n : (⟨1, ![N]⟩ : Shape).Idx,
      (if hin : ∀ a : Fin 1, (![L] : Fin 1 → ℕ) a ≤ (j (a.cast h.1.symm)).val * (![1] : Fin 1 → ℕ) a + (n a).val
            ∧ (j (a.cast h.1.symm)).val * (![1] : Fin 1 → ℕ) a + (n a).val - (![L] : Fin 1 → ℕ) a < (⟨1, ![N]⟩ : Shape).size a
        then (x (fun a => ⟨(j (a.cast h.1.symm)).val * (![1] : Fin 1 → ℕ) a + (n a).val - (![L] : Fin 1 → ℕ) a, (hin a).2⟩) : EReal) else 0)
        = (fun q => if L ≤ (j 0).val + q then f ((j 0).val + q - L) else 0) (n 0).val := by
    intro n
    have hn : (n 0).val < N := (n 0).isLt
    by_cases hq : L ≤ (j 0).val + (n 0).val
    · rw [dif_pos, hx]
      · show f ((j 0).val * 1 + (n 0).val - L) = if L ≤ (j 0).val + (n 0).val then f ((j 0).val + (n 0).val - L) else 0
        rw [if_pos hq, Nat.mul_one]
      · intro a
        match a with
        | ⟨0, _⟩ =>
          show L ≤ (j 0).val * 1 + (n 0).val ∧ (j 0).val * 1 + (n 0).val - L < N
          omega
    · rw [dif_neg]
      · exact (if_neg hq).symm
      · intro hin
        have h1 : L ≤ (j 0).val * 1 + (n 0).val := (hin 0).1
        omega
  have fold : Host.reduceWindow (· + ·) ![N] ![1] ![L] ![0] x (fun _ : (⟨0, ![]⟩ : Shape).Idx => (0 : EReal)) h (by decide) j
      = ∑ n : (⟨1, ![N]⟩ : Shape).Idx, (fun q => if L ≤ (j 0).val + q then f ((j 0).val + q - L) else 0) (n 0).val := by
    rw [← Finset.sum_congr rfl fun n _ => step n, sum_idx_eq_foldl]
    rfl
  refine fold.trans ((sum_line (N := N) (fun q => if L ≤ (j 0).val + q then f ((j 0).val + q - L) else 0)).trans ?_)
  show ∑ q ∈ Finset.range N, (if L ≤ (j 0).val + q then f ((j 0).val + q - L) else 0) = _
  clear fold step
  generalize (j 0).val = k at hj ⊢
  rw [show N = (L - k) + (k + 1) by omega, Finset.sum_range_add,
    Finset.sum_eq_zero (fun q hq => if_neg (by have := Finset.mem_range.mp hq; omega)), zero_add]
  refine Finset.sum_congr rfl fun q _ => ?_
  rw [if_pos (by omega)]
  exact congrArg f (by omega)

end Cert.Proof.Lines
-- ==== Proof.RefValue.lean ====
/-
  The reference's result over the extended reals: the sum of the entries that the indices name, and the regulariser.
-/
module

public import proofs.«01_k».proof.Proof.RefNames
public import proofs.«01_k».proof.Proof.Lines
public import proofs.«01_k».proof.Proof.Numbers
public import Idealize.ShloMosaic.Lib.ValueIdxCore
public import Idealize.ShloMosaic.Lib.IdealHost
public import Idealize.ShloMosaic.Lib.Pipeline.Value
public import Idealize.ShloMosaic.Lib.ReduceAll

@[expose] public section

noncomputable section

namespace Cert.Proof.ReferenceIdeal

open Cert.ReferenceIdeal Cert.ReferenceIdeal.Gen
open Cert.Proof.Numbers Cert.Proof.Lines

open Idealize.ShloMosaic
open scoped BigOperators

section Values

variable (w : FVec Ideal S999999 .f32) {xs : IVec S16384x200 32}

/-! ### The elements of the reference's values -/

theorem zeros_apply (k : S999999.Idx) : zeros (F := Ideal) k = (0 : EReal) := Ideal.ofBits_zero_f32

/-- A word counted down. -/
theorem down_word {n : ℕ} (h : n < 999999) :
    IntOp.addi 999999#32 (IntOp.muli 4294967295#32 (BitVec.ofNat 32 n)) = BitVec.ofNat 32 (999999 - n) := by
  apply BitVec.eq_of_toNat_eq
  show (999999#32 + 4294967295#32 * BitVec.ofNat 32 n).toNat = _
  simp only [BitVec.toNat_add, BitVec.toNat_mul, BitVec.toNat_ofNat]
  omega

theorem logits_apply (k : S999999.Idx) : logits w k = logit w (k 0).val := by
  have hk : (k 0).val < 999999 := (k 0).isLt
  show w k - Ideal.log (((IntOp.addi 999999#32 (IntOp.muli 4294967295#32 (BitVec.ofNat 32 (k 0).val))).toInt : ℝ) : EReal) = _
  rw [down_word hk]
  have e : weightAt w (k 0).val = w k := (dif_pos hk).trans (congrArg w (funext fun | ⟨0, _⟩ => rfl))
  unfold logit
  rw [e]

theorem softplusOf_apply (n : FVec Ideal S999999 .f32) (k : S999999.Idx) : softplusOf n k = softplus (n k) := by
  show Scalar.select (BitVec.ofBool (decide (n k - zeros (F := Ideal) k ≠ n k - zeros (F := Ideal) k))) (n k + zeros (F := Ideal) k)
    (max (n k) (zeros (F := Ideal) k) + Ideal.log1p (Ideal.exp (-(max (n k - zeros (F := Ideal) k) (-(n k - zeros (F := Ideal) k)))))) = _
  rw [zeros_apply, decide_eq_false (fun h => h rfl), sub_zero]
  rfl

theorem stops_apply (k : S999999.Idx) : stops w k = stop w (k 0).val := by
  show -(softplusOf (Host.negf (logits w)) k) = _
  rw [softplusOf_apply]
  show -(softplus (-(logits w k))) = _
  rw [neg_softplus, neg_neg, logits_apply]
  unfold stop
  exact (if_pos (k 0).isLt).symm

theorem passes_apply (k : S999999.Idx) : passes w k = pass w (k 0).val := by
  show -(softplusOf (Host.negf (Host.negf (logits w))) k) = _
  rw [softplusOf_apply]
  show -(softplus (-(-(logits w k)))) = _
  rw [neg_softplus, neg_neg, logOf_neg, logits_apply]
  unfold pass
  exact (if_pos (k 0).isLt).symm

theorem sums_apply (k : S999999.Idx) : sums w k = ∑ i ∈ Finset.range ((k 0).val + 1), pass w i :=
  running_sum (N := 999999) (L := 999998) rfl (passes w) (pass w) (passes_apply w) _ _ h_S_ Ideal.ofBits_zero_f32 k

theorem befores_apply (k : S999999.Idx) : befores w k = ∑ i ∈ Finset.range (k 0).val, pass w i := by
  have hk : (k 0).val < 999999 := (k 0).isLt
  unfold befores
  by_cases h : (k 0).val = 0
  · refine (concatenate_apply_piece 0 _ _ k 0 (by exact Nat.two_pos) S1 _ rfl rfl 0 rfl (at1 0 (by decide)) ?_ ?_).trans ?_
    · intro b hb
      match b with
      | ⟨0, _⟩ => exact absurd rfl hb
    · exact h.symm
    · rw [h, Finset.sum_range_zero]
      exact Ideal.ofBits_zero_f32
  · refine (concatenate_apply_piece 0 _ _ k 1 (by exact Nat.one_lt_two) S999998 _ rfl rfl 1 rfl (at1 ((k 0).val - 1) (by omega)) ?_ ?_).trans ?_
    · intro b hb
      match b with
      | ⟨0, _⟩ => exact absurd rfl hb
    · show 1 + ((k 0).val - 1) = (k 0).val
      omega
    · unfold extractStridedSlice
      rw [sums_apply]
      show ∑ i ∈ Finset.range (0 + ((k 0).val - 1) + 1), pass w i = _
      rw [show 0 + ((k 0).val - 1) + 1 = (k 0).val by omega]

/-- The table holds entry `k` at `k`. -/
theorem table_apply {k : ℕ} (hk : k < 1000000) : table w (at1 k hk) = entry w k := by
  unfold table entry
  by_cases h : k < 999999
  · refine (concatenate_apply_piece 0 _ _ (at1 k hk) 0 (by exact Nat.two_pos) S999999 _ rfl rfl 0 rfl (at1 k h) ?_ ?_).trans ?_
    · intro b hb
      match b with
      | ⟨0, _⟩ => exact absurd rfl hb
    · exact Nat.zero_add _
    · show stops w (at1 k h) + befores w (at1 k h) = _
      rw [stops_apply, befores_apply]
      rfl
  · obtain rfl : k = 999999 := by omega
    refine (concatenate_apply_piece 0 _ _ (at1 999999 hk) 1 (by exact Nat.one_lt_two) S1 _ rfl rfl 999999 rfl (at1 0 (by decide)) ?_ ?_).trans ?_
    · intro b hb
      match b with
      | ⟨0, _⟩ => exact absurd rfl hb
    · rfl
    · unfold extractStridedSlice
      rw [sums_apply, show stop w 999999 = 0 from if_neg (by omega), zero_add]
      rfl

/-- The sum of the terms is the regulariser. -/
theorem terms_total : ∑ k : S999999.Idx, terms w k = regular w := by
  have e : ∀ k : S999999.Idx, terms w k = (fun n => (-(logit w n) + stop w n) + entry w n) (k 0).val := by
    intro k
    show (-(logits w k) + stops w k) + (stops w k + befores w k) = _
    rw [logits_apply, stops_apply, befores_apply]
    rfl
  rw [Finset.sum_congr rfl fun k _ => e k]
  exact sum_line (N := 999999) fun n => (-(logit w n) + stop w n) + entry w n

/-! ### The lookup -/

variable (hxs : ∀ j, (xs j).toNat < 1000000)

/-- The index that a place of the column of indices came from. -/
def rowOf (y : S16384x200x1.Idx) : S16384x200.Idx := ValueIdx.ix2 (⟨(y 0).val, (y 0).isLt⟩ : Fin 16384) (⟨(y 1).val, (y 1).isLt⟩ : Fin 200)

include hxs in
theorem toInt_index (j : S16384x200.Idx) : (xs j).toInt = ((xs j).toNat : ℤ) := by
  have := hxs j
  exact BitVec.toInt_eq_toNat_of_lt (by omega)

include hxs in
theorem wrapped_apply (j : S16384x200.Idx) : wrapped xs j = xs j := by
  show Scalar.select (BitVec.ofBool ((xs j).slt 0#32)) _ (xs j) = _
  have e : (xs j).slt 0#32 = false := by
    rw [BitVec.slt_eq_decide, toInt_index hxs j]
    exact decide_eq_false (by simp)
  rw [e]
  rfl

include hxs in
theorem starts_apply (y : S16384x200x1.Idx) : starts xs y = xs (rowOf y) := by
  unfold starts
  refine (broadcastInDim_apply _ _ _ y (rowOf y) ?_).trans (wrapped_apply hxs _)
  intro a
  match a with
  | ⟨0, _⟩ => rfl
  | ⟨1, _⟩ => rfl

include hxs in
theorem inside_apply (j : S16384x200.Idx) : inside xs j = 1#1 := by
  unfold inside
  refine Host.reduce_andi_one _ _ _ _ _ rfl fun y => ?_
  show BitVec.ofBool ((0#32).sle (starts xs y)) &&& BitVec.ofBool ((starts xs y).sle 999999#32) = 1#1
  rw [starts_apply hxs, BitVec.sle_eq_decide, BitVec.sle_eq_decide, toInt_index hxs]
  have h := hxs (rowOf y)
  rw [decide_eq_true (by simp), decide_eq_true]
  · rfl
  · show _ ≤ (999999 : ℤ)
    omega

include hxs in
/-- The entry looked up is the one the index names. -/
theorem looked_apply (j : S16384x200.Idx) : looked w xs j = entry w (xs j).toNat := by
  unfold looked
  rw [ValueIdx.select_apply, inside_apply hxs, ValueIdx.select_one]
  have take := ValueIdx.gather_take_apply (N := 1000000) (R := 16384) (C := 200) (Nat.succ_pos 999999)
    gather_S1000000_S16384x200x1_S16384x200_n_0_n_n_0_2_1.wf (table w) (starts xs) j
  refine Eq.trans take ?_
  have e : starts xs (ValueIdx.takeIdx j) = xs j := by
    rw [starts_apply hxs]
    refine congrArg xs (funext fun a => ?_)
    match a with
    | ⟨0, _⟩ => rfl
    | ⟨1, _⟩ => rfl
  have hj := hxs j
  have hn : min (starts xs (ValueIdx.takeIdx j)).toInt.toNat (1000000 - 1) = (xs j).toNat := by
    rw [e, toInt_index hxs j]
    omega
  refine (congrArg (table w) ?_).trans (table_apply w hj)
  funext a
  match a with
  | ⟨0, _⟩ => exact Fin.ext hn

include hxs in
/-- The reference's result: the sum of the entries that the indices name, and the regulariser. -/
theorem result_eq (z : S_.Idx) : result w xs z = (∑ y : S16384x200.Idx, entry w (xs y).toNat) + regular w := by
  unfold result
  rw [ValueIdx.addf_apply, reduceAdd_total (looked w xs) _ _ _ (fun b => b.elim0) Ideal.ofBits_zero_f32,
    reduceAdd_total (terms w) _ _ _ (fun b => b.elim0) Ideal.ofBits_zero_f32, terms_total, Finset.sum_congr rfl fun y _ => looked_apply w hxs y]

end Values

end Cert.Proof.ReferenceIdeal
-- ==== Proof.Agree.lean ====
/-
  The value claim: over the extended reals the kernel's program and the reference end with one result, from any indices
  in range and any weights.
-/
module

public import proofs.«01_k».proof.Proof.Frames
public import proofs.«01_k».proof.Proof.KISums
public import proofs.«01_k».proof.Proof.RefValue

@[expose] public section

noncomputable section

namespace Cert.Proof

open Idealize.ShloMosaic Idealize.SL.Sem
open scoped BigOperators

/-- The reference's result and the program's, of the same arguments, are one. -/
theorem results_agree (xs : Cert.KernelIdeal.S16384x200.Idx → BitVec 32) (w : Cert.KernelIdeal.S999999.Idx → Ideal .f32)
    (h : ∀ j, (xs j).toNat < 1000000) :
    (ReferenceIdeal.result (F := Ideal) w xs : Cert.ReferenceIdeal.S_.Idx → Ideal .f32) = KernelIdeal.resultOf (F := Ideal) xs w :=
  funext fun z => (ReferenceIdeal.result_eq w h z).trans (KernelIdeal.resultOf_eq w xs h z).symm

/-- `Cert.algebraic_KernelIdeal_ReferenceIdeal` (Defs.lean). -/
theorem algebraic : Cert.algebraic_KernelIdeal_ReferenceIdeal := fun m g m' g' hpre hargs =>
  ⟨fun c => KernelIdeal.resultOf (F := Ideal) (KernelIdeal.xsOf m c) (KernelIdeal.wOf m c),
    (θ_run Cert.KernelIdeal.defs _ _).mono (fun _ h c => h.1 c) (KernelIdeal.run_main (F := Ideal) m g (ok_KernelIdeal m hpre)),
    (θ_run Cert.ReferenceIdeal.defs _ _).mono
      (fun _ h c => ⟨(h c).1.trans ((ReferenceIdeal.res_eq (F := Ideal) m' c).trans ((congrArg₂ (ReferenceIdeal.result (F := Ideal)) (hargs c).2 (hargs c).1).trans
        (results_agree (KernelIdeal.xsOf m c) (KernelIdeal.wOf m c) (ok_KernelIdeal m hpre c)))), (h c).2⟩)
      (Cert.ReferenceIdeal.Value.run (F := Ideal) m' g')⟩

end Cert.Proof

end
-- ==== Proof.lean ====
/-
  The proof of `Cert.Claim` (Defs.lean): the frames of the kernel's program, of its idealization and of the reference
  (Proof/Frames.lean), that the idealization rewrote nothing, and that the idealization and the reference agree in their
  result (Proof/Agree.lean).
-/
module

public import proofs.«01_k».proof.Proof.Frames
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_Kernel, frame_KernelIdeal, frame_ReferenceIdeal, frame_ReferenceIdeal_in_range, trivial, algebraic⟩

end Cert.Proof

end
